-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x4096 : Shape := ⟨3, ![8, 512, 4096]⟩
abbrev S2048x512 : Shape := ⟨2, ![2048, 512]⟩
abbrev S2048 : Shape := ⟨1, ![2048]⟩
abbrev S1024x1x3 : Shape := ⟨3, ![1024, 1, 3]⟩
abbrev S1024 : Shape := ⟨1, ![1024]⟩
abbrev S64x1024 : Shape := ⟨2, ![64, 1024]⟩
abbrev S1024x32 : Shape := ⟨2, ![1024, 32]⟩
abbrev S1024x16 : Shape := ⟨2, ![1024, 16]⟩
abbrev S512x1024 : Shape := ⟨2, ![512, 1024]⟩
abbrev S512 : Shape := ⟨1, ![512]⟩
abbrev S8x4096x512 : Shape := ⟨3, ![8, 4096, 512]⟩
abbrev S1024x512 : Shape := ⟨2, ![1024, 512]⟩
abbrev S1x1024 : Shape := ⟨2, ![1, 1024]⟩
abbrev S1024x3 : Shape := ⟨2, ![1024, 3]⟩
abbrev S3x1024 : Shape := ⟨2, ![3, 1024]⟩
abbrev S32x1024 : Shape := ⟨2, ![32, 1024]⟩
abbrev S16x1024 : Shape := ⟨2, ![16, 1024]⟩
abbrev S1x512 : Shape := ⟨2, ![1, 512]⟩
abbrev S2x512x512 : Shape := ⟨3, ![2, 512, 512]⟩
abbrev S2x8x512 : Shape := ⟨3, ![2, 8, 512]⟩
abbrev S1024x1024 : Shape := ⟨2, ![1024, 1024]⟩
abbrev S2x64x8x1024 : Shape := ⟨4, ![2, 64, 8, 1024]⟩
abbrev S2x64x8x16 : Shape := ⟨4, ![2, 64, 8, 16]⟩
abbrev S2x16x1024 : Shape := ⟨3, ![2, 16, 1024]⟩
abbrev S2x1024 : Shape := ⟨2, ![2, 1024]⟩
abbrev S2x1x512 : Shape := ⟨3, ![2, 1, 512]⟩
abbrev S2x512 : Shape := ⟨2, ![2, 512]⟩
abbrev S511x1024 : Shape := ⟨2, ![511, 1024]⟩
abbrev S1x16x1024 : Shape := ⟨3, ![1, 16, 1024]⟩
abbrev S1x1x8x1024 : Shape := ⟨4, ![1, 1, 8, 1024]⟩
abbrev S8x1024 : Shape := ⟨2, ![8, 1024]⟩
abbrev S1x1x8x16 : Shape := ⟨4, ![1, 1, 8, 16]⟩
abbrev S8x16 : Shape := ⟨2, ![8, 16]⟩
abbrev S8x16x1 : Shape := ⟨3, ![8, 16, 1]⟩
abbrev S2x1x1024 : Shape := ⟨3, ![2, 1, 1024]⟩
abbrev S2x16 : Shape := ⟨2, ![2, 16]⟩
abbrev S2x16x1 : Shape := ⟨3, ![2, 16, 1]⟩
abbrev S1x16x1 : Shape := ⟨3, ![1, 16, 1]⟩
abbrev S16x1 : Shape := ⟨2, ![16, 1]⟩

abbrev nBuf : Space → Nat
  | .hbm => 42
  | .vmem => 29
  | .smem => 0
  | _ => 0

abbrev bufTy : (tb : Table) → Fin (tcTables nBuf tb) → BufTy
  | .hbm, ⟨0, _⟩ => ⟨S8x512x4096, .f32⟩
  | .hbm, ⟨1, _⟩ => ⟨S2048x512, .f32⟩
  | .hbm, ⟨2, _⟩ => ⟨S2048, .f32⟩
  | .hbm, ⟨3, _⟩ => ⟨S1024x1x3, .f32⟩
  | .hbm, ⟨4, _⟩ => ⟨S1024, .f32⟩
  | .hbm, ⟨5, _⟩ => ⟨S64x1024, .f32⟩
  | .hbm, ⟨6, _⟩ => ⟨S1024x32, .f32⟩
  | .hbm, ⟨7, _⟩ => ⟨S1024, .f32⟩
  | .hbm, ⟨8, _⟩ => ⟨S1024x16, .f32⟩
  | .hbm, ⟨9, _⟩ => ⟨S1024, .f32⟩
  | .hbm, ⟨10, _⟩ => ⟨S512x1024, .f32⟩
  | .hbm, ⟨11, _⟩ => ⟨S512, .f32⟩
  | .hbm, ⟨12, _⟩ => ⟨S8x4096x512, .f32⟩
  | .hbm, ⟨13, _⟩ => ⟨S1024x512, .f32⟩
  | .hbm, ⟨14, _⟩ => ⟨S512x1024, .f32⟩
  | .hbm, ⟨15, _⟩ => ⟨S512x1024, .bf16⟩
  | .hbm, ⟨16, _⟩ => ⟨S1024x512, .f32⟩
  | .hbm, ⟨17, _⟩ => ⟨S512x1024, .f32⟩
  | .hbm, ⟨18, _⟩ => ⟨S512x1024, .bf16⟩
  | .hbm, ⟨19, _⟩ => ⟨S1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S1024x3, .f32⟩
  | .hbm, ⟨24, _⟩ => ⟨S3x1024, .f32⟩
  | .hbm, ⟨25, _⟩ => ⟨S1x1024, .f32⟩
  | .hbm, ⟨26, _⟩ => ⟨S32x1024, .f32⟩
  | .hbm, ⟨27, _⟩ => ⟨S32x1024, .bf16⟩
  | .hbm, ⟨28, _⟩ => ⟨S16x1024, .f32⟩
  | .hbm, ⟨29, _⟩ => ⟨S16x1024, .bf16⟩
  | .hbm, ⟨30, _⟩ => ⟨S16x1024, .f32⟩
  | .hbm, ⟨31, _⟩ => ⟨S16x1024, .bf16⟩
  | .hbm, ⟨32, _⟩ => ⟨S32x1024, .f32⟩
  | .hbm, ⟨33, _⟩ => ⟨S32x1024, .bf16⟩
  | .hbm, ⟨34, _⟩ => ⟨S1x1024, .f32⟩
  | .hbm, ⟨35, _⟩ => ⟨S16x1024, .f32⟩
  | .hbm, ⟨36, _⟩ => ⟨S1x1024, .f32⟩
  | .hbm, ⟨37, _⟩ => ⟨S1024x512, .f32⟩
  | .hbm, ⟨38, _⟩ => ⟨S1024x512, .bf16⟩
  | .hbm, ⟨39, _⟩ => ⟨S1x512, .f32⟩
  | .hbm, ⟨40, _⟩ => ⟨S8x4096x512, .f32⟩
  | .hbm, ⟨41, _⟩ => ⟨S8x512x4096, .f32⟩
  | .local _ .vmem, ⟨0, _⟩ => ⟨S2x512x512, .f32⟩
  | .local _ .vmem, ⟨1, _⟩ => ⟨S2x512x512, .f32⟩
  | .local _ .vmem, ⟨2, _⟩ => ⟨S2x8x512, .f32⟩
  | .local _ .vmem, ⟨3, _⟩ => ⟨S2x8x512, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x1024, .f32⟩
  | .local _ .vmem, ⟨8, _⟩ => ⟨S3x1024, .f32⟩
  | .local _ .vmem, ⟨9, _⟩ => ⟨S1x1024, .f32⟩
  | .local _ .vmem, ⟨10, _⟩ => ⟨S32x1024, .bf16⟩
  | .local _ .vmem, ⟨11, _⟩ => ⟨S16x1024, .bf16⟩
  | .local _ .vmem, ⟨12, _⟩ => ⟨S16x1024, .bf16⟩
  | .local _ .vmem, ⟨13, _⟩ => ⟨S32x1024, .bf16⟩
  | .local _ .vmem, ⟨14, _⟩ => ⟨S1x1024, .f32⟩
  | .local _ .vmem, ⟨15, _⟩ => ⟨S16x1024, .f32⟩
  | .local _ .vmem, ⟨16, _⟩ => ⟨S1x1024, .f32⟩
  | .local _ .vmem, ⟨17, _⟩ => ⟨S1024x512, .bf16⟩
  | .local _ .vmem, ⟨18, _⟩ => ⟨S1x512, .f32⟩
  | .local _ .vmem, ⟨19, _⟩ => ⟨S2x512x512, .f32⟩
  | .local _ .vmem, ⟨20, _⟩ => ⟨S2x512x512, .f32⟩
  | .local _ .vmem, ⟨21, _⟩ => ⟨S1024x1024, .f32⟩
  | .local _ .vmem, ⟨22, _⟩ => ⟨S2x64x8x1024, .f32⟩
  | .local _ .vmem, ⟨23, _⟩ => ⟨S2x64x8x1024, .f32⟩
  | .local _ .vmem, ⟨24, _⟩ => ⟨S2x64x8x16, .f32⟩
  | .local _ .vmem, ⟨25, _⟩ => ⟨S2x64x8x16, .f32⟩
  | .local _ .vmem, ⟨26, _⟩ => ⟨S2x64x8x1024, .f32⟩
  | .local _ .vmem, ⟨27, _⟩ => ⟨S2x16x1024, .f32⟩
  | .local _ .vmem, ⟨28, _⟩ => ⟨S2x1024, .f32⟩
  | _, _ => ⟨S8x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg17_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem17_1 : DmaSem sig := 20

abbrev nD : Nat := 1
abbrev τ : Topo := Topo.v7x

variable {F : FTy → Type} [FloatOps F]

abbrev grid0 : Pipeline.Grid := ⟨2, ![4, 8], ![false, false]⟩

@[reducible] def k0_t1_loop : Scf.Loop 32 :=
  let c0_i32_83 : BitVec 32 := 0#32
  let c64_i32 : BitVec 32 := 64#32
  let v146 : BitVec 32 := Scalar.addi c0_i32_83 c64_i32
  let c1_i32 : BitVec 32 := 1#32
  ⟨c0_i32_83, v146, c1_i32⟩
def k0_off1 (k0_t1 : Fin k0_t1_loop.trips) : Fin 4 → Nat :=
  let c0_111 : Index := 0#32
  let c0_i32_83 : BitVec 32 := 0#32
  let c1_i32 : BitVec 32 := 1#32
  let arg28 : BitVec 32 := Scf.iv c0_i32_83 c1_i32 k0_t1
  let v176 : Index := Scalar.indexCast arg28
  let c0_112 : Index := 0#32
  let c0_113 : Index := 0#32
  ![0, v176.toNat, 0, 0]
def k0_off2 (k0_t1 : Fin k0_t1_loop.trips) : Fin 4 → Nat :=
  let c0_117 : Index := 0#32
  let c0_i32_83 : BitVec 32 := 0#32
  let c1_i32 : BitVec 32 := 1#32
  let arg28 : BitVec 32 := Scf.iv c0_i32_83 c1_i32 k0_t1
  let v182 : Index := Scalar.indexCast arg28
  let c0_118 : Index := 0#32
  let c0_119 : Index := 0#32
  ![0, v182.toNat, 0, 0]
def k0_off3 (k0_t1 : Fin k0_t1_loop.trips) : Fin 4 → Nat :=
  let c1_134 : Index := 1#32
  let c0_i32_83 : BitVec 32 := 0#32
  let c1_i32 : BitVec 32 := 1#32
  let arg28 : BitVec 32 := Scf.iv c0_i32_83 c1_i32 k0_t1
  let v347 : Index := Scalar.indexCast arg28
  let c0_135 : Index := 0#32
  let c0_136 : Index := 0#32
  ![1, v347.toNat, 0, 0]
def k0_off4 (k0_t1 : Fin k0_t1_loop.trips) : Fin 4 → Nat :=
  let c1_140 : Index := 1#32
  let c0_i32_83 : BitVec 32 := 0#32
  let c1_i32 : BitVec 32 := 1#32
  let arg28 : BitVec 32 := Scf.iv c0_i32_83 c1_i32 k0_t1
  let v353 : Index := Scalar.indexCast arg28
  let c0_141 : Index := 0#32
  let c0_142 : Index := 0#32
  ![1, v353.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c64_i32 : BitVec 32 := 64#32
  let v1 : BitVec 32 := Scalar.muli v0 c64_i32
  let c511_i32 : BitVec 32 := 511#32
  let v2 : BitVec 32 := Scalar.minsi v1 c511_i32
  let c0_i32 : BitVec 32 := 0#32
  let c0_i32_0 : BitVec 32 := 0#32
  ![arg0.toNat, v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S32x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S16x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S16x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S32x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S16x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S2x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== ReferenceIdeal.lean ====
abbrev S8x512x4096 : Shape := ⟨3, ![8, 512, 4096]⟩
abbrev S2048x512 : Shape := ⟨2, ![2048, 512]⟩
abbrev S2048 : Shape := ⟨1, ![2048]⟩
abbrev S1024x1x3 : Shape := ⟨3, ![1024, 1, 3]⟩
abbrev S1024 : Shape := ⟨1, ![1024]⟩
abbrev S64x1024 : Shape := ⟨2, ![64, 1024]⟩
abbrev S1024x32 : Shape := ⟨2, ![1024, 32]⟩
abbrev S1024x16 : Shape := ⟨2, ![1024, 16]⟩
abbrev S512x1024 : Shape := ⟨2, ![512, 1024]⟩
abbrev S512 : Shape := ⟨1, ![512]⟩
abbrev S8x4096x2048 : Shape := ⟨3, ![8, 4096, 2048]⟩
abbrev S8x2048x4096 : Shape := ⟨3, ![8, 2048, 4096]⟩
abbrev S1x2048x1 : Shape := ⟨3, ![1, 2048, 1]⟩
abbrev S8x1024x4096 : Shape := ⟨3, ![8, 1024, 4096]⟩
abbrev S_ : Shape := ⟨0, ![]⟩
abbrev S8x1024x1 : Shape := ⟨3, ![8, 1024, 1]⟩
abbrev S8x1024x4095 : Shape := ⟨3, ![8, 1024, 4095]⟩
abbrev S1024x1x1 : Shape := ⟨3, ![1024, 1, 1]⟩
abbrev S1024x1 : Shape := ⟨2, ![1024, 1]⟩
abbrev S1x1024x1 : Shape := ⟨3, ![1, 1024, 1]⟩
abbrev S8x4096x64 : Shape := ⟨3, ![8, 4096, 64]⟩
abbrev S8x64x4096 : Shape := ⟨3, ![8, 64, 4096]⟩
abbrev S8x32x4096 : Shape := ⟨3, ![8, 32, 4096]⟩
abbrev S8x16x4096 : Shape := ⟨3, ![8, 16, 4096]⟩
abbrev S8x4096x1024 : Shape := ⟨3, ![8, 4096, 1024]⟩
abbrev S4096x8x1024 : Shape := ⟨3, ![4096, 8, 1024]⟩
abbrev S4096x8x16 : Shape := ⟨3, ![4096, 8, 16]⟩
abbrev S8x1024x16 : Shape := ⟨3, ![8, 1024, 16]⟩
abbrev S1x8x1024 : Shape := ⟨3, ![1, 8, 1024]⟩
abbrev S8x1024 : Shape := ⟨2, ![8, 1024]⟩
abbrev S1x8x16 : Shape := ⟨3, ![1, 8, 16]⟩
abbrev S8x16 : Shape := ⟨2, ![8, 16]⟩
abbrev S1x1024x16 : Shape := ⟨3, ![1, 1024, 16]⟩
abbrev S8x1x16 : Shape := ⟨3, ![8, 1, 16]⟩
abbrev S1x1024 : Shape := ⟨2, ![1, 1024]⟩
abbrev S8x4096x512 : Shape := ⟨3, ![8, 4096, 512]⟩
abbrev S1x512x1 : Shape := ⟨3, ![1, 512, 1]⟩

abbrev nBuf : Space → Nat
  | .hbm => 167
  | .vmem => 0
  | .smem => 0
  | _ => 0

abbrev hbmTy0_0 (i : Nat) : BufTy := match i % 128 with
  | 0 => ⟨S8x512x4096, .f32⟩
  | 1 => ⟨S2048x512, .f32⟩
  | 2 => ⟨S2048, .f32⟩
  | 3 => ⟨S1024x1x3, .f32⟩
  | 4 => ⟨S1024, .f32⟩
  | 5 => ⟨S64x1024, .f32⟩
  | 6 => ⟨S1024x32, .f32⟩
  | 7 => ⟨S1024, .f32⟩
  | 8 => ⟨S1024x16, .f32⟩
  | 9 => ⟨S1024, .f32⟩
  | 10 => ⟨S512x1024, .f32⟩
  | 11 => ⟨S512, .f32⟩
  | 12 => ⟨S8x4096x2048, .f32⟩
  | 13 => ⟨S8x2048x4096, .f32⟩
  | 14 => ⟨S1x2048x1, .f32⟩
  | 15 => ⟨S8x2048x4096, .f32⟩
  | 16 => ⟨S8x2048x4096, .f32⟩
  | 17 => ⟨S8x1024x4096, .f32⟩
  | 18 => ⟨S8x1024x4096, .f32⟩
  | 19 => ⟨S_, .f32⟩
  | 20 => ⟨S8x1024x1, .f32⟩
  | 21 => ⟨S8x1024x4095, .f32⟩
  | 22 => ⟨S8x1024x4096, .f32⟩
  | 23 => ⟨S8x1024x4095, .f32⟩
  | 24 => ⟨S8x1024x4096, .f32⟩
  | 25 => ⟨S1024x1x1, .f32⟩
  | 26 => ⟨S1024x1, .f32⟩
  | 27 => ⟨S1x1024x1, .f32⟩
  | 28 => ⟨S8x1024x4096, .f32⟩
  | 29 => ⟨S8x1024x4096, .f32⟩
  | 30 => ⟨S1024x1x1, .f32⟩
  | 31 => ⟨S1024x1, .f32⟩
  | 32 => ⟨S1x1024x1, .f32⟩
  | 33 => ⟨S8x1024x4096, .f32⟩
  | 34 => ⟨S8x1024x4096, .f32⟩
  | 35 => ⟨S8x1024x4096, .f32⟩
  | 36 => ⟨S1024x1x1, .f32⟩
  | 37 => ⟨S1024x1, .f32⟩
  | 38 => ⟨S1x1024x1, .f32⟩
  | 39 => ⟨S8x1024x4096, .f32⟩
  | 40 => ⟨S8x1024x4096, .f32⟩
  | 41 => ⟨S8x1024x4096, .f32⟩
  | 42 => ⟨S1x1024x1, .f32⟩
  | 43 => ⟨S8x1024x4096, .f32⟩
  | 44 => ⟨S8x1024x4096, .f32⟩
  | 45 => ⟨S8x1024x4096, .f32⟩
  | 46 => ⟨S8x1024x4096, .f32⟩
  | 47 => ⟨S_, .f32⟩
  | 48 => ⟨S8x1024x4096, .f32⟩
  | 49 => ⟨S8x1024x4096, .f32⟩
  | 50 => ⟨S_, .f32⟩
  | 51 => ⟨S8x1024x4096, .f32⟩
  | 52 => ⟨S8x1024x4096, .f32⟩
  | 53 => ⟨S8x1024x4096, .f32⟩
  | 54 => ⟨S8x4096x64, .f32⟩
  | 55 => ⟨S8x64x4096, .f32⟩
  | 56 => ⟨S8x32x4096, .f32⟩
  | 57 => ⟨S8x16x4096, .f32⟩
  | 58 => ⟨S8x16x4096, .f32⟩
  | 59 => ⟨S8x4096x1024, .f32⟩
  | 60 => ⟨S8x1024x4096, .f32⟩
  | 61 => ⟨S1x1024x1, .f32⟩
  | 62 => ⟨S8x1024x4096, .f32⟩
  | 63 => ⟨S8x1024x4096, .f32⟩
  | 64 => ⟨S1024x16, .f32⟩
  | 65 => ⟨S1024x16, .f32⟩
  | 66 => ⟨S1x1024x1, .f32⟩
  | 67 => ⟨S8x1024x4096, .f32⟩
  | 68 => ⟨S8x1024x4096, .f32⟩
  | 69 => ⟨S_, .f32⟩
  | 70 => ⟨S8x1024x4096, .f32⟩
  | 71 => ⟨S8x1024x4096, .f32⟩
  | 72 => ⟨S8x1024x4096, .f32⟩
  | 73 => ⟨S8x1024x4096, .f32⟩
  | 74 => ⟨S8x1024x4096, .i1⟩
  | 75 => ⟨S8x1024x4096, .f32⟩
  | 76 => ⟨S8x1024x4096, .f32⟩
  | 77 => ⟨S8x1024x4096, .f32⟩
  | 78 => ⟨S8x1024x4096, .f32⟩
  | 79 => ⟨S8x1024x4096, .f32⟩
  | 80 => ⟨S8x1024x4096, .f32⟩
  | 81 => ⟨S8x1024x4096, .f32⟩
  | 82 => ⟨S8x1024x4096, .f32⟩
  | 83 => ⟨S4096x8x1024, .f32⟩
  | 84 => ⟨S4096x8x1024, .f32⟩
  | 85 => ⟨S4096x8x16, .f32⟩
  | 86 => ⟨S4096x8x16, .f32⟩
  | 87 => ⟨S8x1024x4096, .f32⟩
  | 88 => ⟨S8x1024x4096, .f32⟩
  | 89 => ⟨S_, .f32⟩
  | 90 => ⟨S8x1024x4096, .f32⟩
  | 91 => ⟨S8x1024x4096, .f32⟩
  | 92 => ⟨S_, .f32⟩
  | 93 => ⟨S8x1024x4096, .f32⟩
  | 94 => ⟨S8x1024x4096, .f32⟩
  | 95 => ⟨S8x1024x4096, .f32⟩
  | 96 => ⟨S4096x8x1024, .f32⟩
  | 97 => ⟨S_, .f32⟩
  | 98 => ⟨S8x1024x16, .f32⟩
  | 99 => ⟨S_, .f32⟩
  | 100 => ⟨S4096x8x1024, .f32⟩
  | 101 => ⟨S_, .i32⟩
  | 102 => ⟨S4096x8x1024, .f32⟩
  | 103 => ⟨S4096x8x1024, .f32⟩
  | 104 => ⟨S4096x8x16, .f32⟩
  | 105 => ⟨S4096x8x16, .f32⟩
  | 106 => ⟨S4096x8x1024, .f32⟩
  | 107 => ⟨S1024x16, .f32⟩
  | 108 => ⟨S1024, .f32⟩
  | 109 => ⟨S_, .i32⟩
  | 110 => ⟨S8x1024x16, .f32⟩
  | 111 => ⟨S4096x8x1024, .f32⟩
  | 112 => ⟨S_, .i32⟩
  | 113 => ⟨S_, .i1⟩
  | 114 => ⟨S_, .i32⟩
  | 115 => ⟨S_, .i32⟩
  | 116 => ⟨S1x8x1024, .f32⟩
  | 117 => ⟨S8x1024, .f32⟩
  | 118 => ⟨S_, .i32⟩
  | 119 => ⟨S_, .i32⟩
  | 120 => ⟨S1x8x1024, .f32⟩
  | 121 => ⟨S8x1024, .f32⟩
  | 122 => ⟨S_, .i32⟩
  | 123 => ⟨S_, .i32⟩
  | 124 => ⟨S1x8x16, .f32⟩
  | 125 => ⟨S8x16, .f32⟩
  | 126 => ⟨S_, .i32⟩
  | 127 => ⟨S_, .i32⟩
  | _ => ⟨S8x512x4096, .f32⟩

abbrev hbmTy0_1 (i : Nat) : BufTy := match i % 128 with
  | 0 => ⟨S1x8x16, .f32⟩
  | 1 => ⟨S8x16, .f32⟩
  | 2 => ⟨S_, .i32⟩
  | 3 => ⟨S_, .i32⟩
  | 4 => ⟨S1x8x1024, .f32⟩
  | 5 => ⟨S8x1024, .f32⟩
  | 6 => ⟨S8x1024x1, .f32⟩
  | 7 => ⟨S1x1024x16, .f32⟩
  | 8 => ⟨S8x1024x16, .f32⟩
  | 9 => ⟨S8x1024x16, .f32⟩
  | 10 => ⟨S8x1024x16, .f32⟩
  | 11 => ⟨S8x1024x16, .f32⟩
  | 12 => ⟨S8x1024x16, .f32⟩
  | 13 => ⟨S8x1024, .f32⟩
  | 14 => ⟨S8x1024x1, .f32⟩
  | 15 => ⟨S8x1x16, .f32⟩
  | 16 => ⟨S8x1024x16, .f32⟩
  | 17 => ⟨S8x1024x16, .f32⟩
  | 18 => ⟨S8x1024x16, .f32⟩
  | 19 => ⟨S8x1024x16, .f32⟩
  | 20 => ⟨S8x1024, .f32⟩
  | 21 => ⟨S1x1024, .f32⟩
  | 22 => ⟨S8x1024, .f32⟩
  | 23 => ⟨S8x1024, .f32⟩
  | 24 => ⟨S8x1024, .f32⟩
  | 25 => ⟨S8x1024, .f32⟩
  | 26 => ⟨S1x8x1024, .f32⟩
  | 27 => ⟨S_, .i32⟩
  | 28 => ⟨S_, .i32⟩
  | 29 => ⟨S4096x8x1024, .f32⟩
  | 30 => ⟨S_, .i32⟩
  | 31 => ⟨S_, .i32⟩
  | 32 => ⟨S8x1024x4096, .f32⟩
  | 33 => ⟨S8x4096x512, .f32⟩
  | 34 => ⟨S8x512x4096, .f32⟩
  | 35 => ⟨S1x512x1, .f32⟩
  | 36 => ⟨S8x512x4096, .f32⟩
  | 37 => ⟨S8x512x4096, .f32⟩
  | 38 => ⟨S8x512x4096, .f32⟩
  | _ => ⟨S8x512x4096, .f32⟩

abbrev hbmTy (i : Nat) : BufTy := match i / 128 with
  | 0 => hbmTy0_0 i
  | 1 => hbmTy0_1 i
  | _ => ⟨S8x512x4096, .f32⟩

abbrev bufTy : (tb : Table) → Fin (tcTables nBuf tb) → BufTy
  | .hbm, ⟨i, _⟩ => hbmTy i
  | _, _ => ⟨S8x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_v2 : Ref sig .tc := ⟨.hbm, 72, rfl⟩
abbrev main_call1_v3 : Ref sig .tc := ⟨.hbm, 73, rfl⟩
abbrev main_call1_v4 : Ref sig .tc := ⟨.hbm, 74, rfl⟩
abbrev main_call1_v5 : Ref sig .tc := ⟨.hbm, 75, rfl⟩
abbrev main_call1_v6 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_call1_v11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_call2_v0 : Ref sig .tc := ⟨.hbm, 87, rfl⟩
abbrev main_call2_v1 : Ref sig .tc := ⟨.hbm, 88, rfl⟩
abbrev main_call2_cst : Ref sig .tc := ⟨.hbm, 89, rfl⟩
abbrev main_call2_v2 : Ref sig .tc := ⟨.hbm, 90, rfl⟩
abbrev main_call2_v3 : Ref sig .tc := ⟨.hbm, 91, rfl⟩
abbrev main_call2_cst_0 : Ref sig .tc := ⟨.hbm, 92, rfl⟩
abbrev main_call2_v4 : Ref sig .tc := ⟨.hbm, 93, rfl⟩
abbrev main_call2_v5 : Ref sig .tc := ⟨.hbm, 94, rfl⟩
abbrev main_v53 : Ref sig .tc := ⟨.hbm, 95, rfl⟩
abbrev main_v54 : Ref sig .tc := ⟨.hbm, 96, rfl⟩
abbrev main_cst_0 : Ref sig .tc := ⟨.hbm, 97, rfl⟩
abbrev main_v55 : Ref sig .tc := ⟨.hbm, 98, rfl⟩
abbrev main_cst_1 : Ref sig .tc := ⟨.hbm, 99, rfl⟩
abbrev main_v56 : Ref sig .tc := ⟨.hbm, 100, rfl⟩
abbrev main_c : Ref sig .tc := ⟨.hbm, 101, rfl⟩
abbrev main_v57_0 : Ref sig .tc := ⟨.hbm, 102, rfl⟩
abbrev main_v57_1 : Ref sig .tc := ⟨.hbm, 103, rfl⟩
abbrev main_v57_2 : Ref sig .tc := ⟨.hbm, 104, rfl⟩
abbrev main_v57_3 : Ref sig .tc := ⟨.hbm, 105, rfl⟩
abbrev main_v57_4 : Ref sig .tc := ⟨.hbm, 106, rfl⟩
abbrev main_v57_5 : Ref sig .tc := ⟨.hbm, 107, rfl⟩
abbrev main_v57_6 : Ref sig .tc := ⟨.hbm, 108, rfl⟩
abbrev main_v57_7 : Ref sig .tc := ⟨.hbm, 109, rfl⟩
abbrev main_v57_8 : Ref sig .tc := ⟨.hbm, 110, rfl⟩
abbrev main_v57_9 : Ref sig .tc := ⟨.hbm, 111, rfl⟩
abbrev main_while0c_c_11 : Ref sig .tc := ⟨.hbm, 112, rfl⟩
abbrev main_while0c_v65 : Ref sig .tc := ⟨.hbm, 113, rfl⟩
abbrev main_while0b_call3_c : Ref sig .tc := ⟨.hbm, 114, rfl⟩
abbrev main_while0b_call3_c_0 : Ref sig .tc := ⟨.hbm, 115, rfl⟩
abbrev main_while0b_call3_v0 : Ref sig .tc := ⟨.hbm, 116, rfl⟩
abbrev main_while0b_v65 : Ref sig .tc := ⟨.hbm, 117, rfl⟩
abbrev main_while0b_call4_c : Ref sig .tc := ⟨.hbm, 118, rfl⟩
abbrev main_while0b_call4_c_0 : Ref sig .tc := ⟨.hbm, 119, rfl⟩
abbrev main_while0b_call4_v0 : Ref sig .tc := ⟨.hbm, 120, rfl⟩
abbrev main_while0b_v66 : Ref sig .tc := ⟨.hbm, 121, rfl⟩
abbrev main_while0b_call5_c : Ref sig .tc := ⟨.hbm, 122, rfl⟩
abbrev main_while0b_call5_c_0 : Ref sig .tc := ⟨.hbm, 123, rfl⟩
abbrev main_while0b_call5_v0 : Ref sig .tc := ⟨.hbm, 124, rfl⟩
abbrev main_while0b_v67 : Ref sig .tc := ⟨.hbm, 125, rfl⟩
abbrev main_while0b_call6_c : Ref sig .tc := ⟨.hbm, 126, rfl⟩
abbrev main_while0b_call6_c_0 : Ref sig .tc := ⟨.hbm, 127, rfl⟩
abbrev main_while0b_call6_v0 : Ref sig .tc := ⟨.hbm, 128, rfl⟩
abbrev main_while0b_v68 : Ref sig .tc := ⟨.hbm, 129, rfl⟩
abbrev main_while0b_call7_c : Ref sig .tc := ⟨.hbm, 130, rfl⟩
abbrev main_while0b_call7_c_0 : Ref sig .tc := ⟨.hbm, 131, rfl⟩
abbrev main_while0b_call7_v0 : Ref sig .tc := ⟨.hbm, 132, rfl⟩
abbrev main_while0b_v69 : Ref sig .tc := ⟨.hbm, 133, rfl⟩
abbrev main_while0b_v70 : Ref sig .tc := ⟨.hbm, 134, rfl⟩
abbrev main_while0b_v71 : Ref sig .tc := ⟨.hbm, 135, rfl⟩
abbrev main_while0b_v72 : Ref sig .tc := ⟨.hbm, 136, rfl⟩
abbrev main_while0b_v73 : Ref sig .tc := ⟨.hbm, 137, rfl⟩
abbrev main_while0b_v74 : Ref sig .tc := ⟨.hbm, 138, rfl⟩
abbrev main_while0b_v75 : Ref sig .tc := ⟨.hbm, 139, rfl⟩
abbrev main_while0b_v76 : Ref sig .tc := ⟨.hbm, 140, rfl⟩
abbrev main_while0b_v77 : Ref sig .tc := ⟨.hbm, 141, rfl⟩
abbrev main_while0b_v78 : Ref sig .tc := ⟨.hbm, 142, rfl⟩
abbrev main_while0b_v79 : Ref sig .tc := ⟨.hbm, 143, rfl⟩
abbrev main_while0b_v80 : Ref sig .tc := ⟨.hbm, 144, rfl⟩
abbrev main_while0b_v81 : Ref sig .tc := ⟨.hbm, 145, rfl⟩
abbrev main_while0b_v82 : Ref sig .tc := ⟨.hbm, 146, rfl⟩
abbrev main_while0b_v83 : Ref sig .tc := ⟨.hbm, 147, rfl⟩
abbrev main_while0b_v84 : Ref sig .tc := ⟨.hbm, 148, rfl⟩
abbrev main_while0b_v85 : Ref sig .tc := ⟨.hbm, 149, rfl⟩
abbrev main_while0b_v86 : Ref sig .tc := ⟨.hbm, 150, rfl⟩
abbrev main_while0b_v87 : Ref sig .tc := ⟨.hbm, 151, rfl⟩
abbrev main_while0b_v88 : Ref sig .tc := ⟨.hbm, 152, rfl⟩
abbrev main_while0b_v89 : Ref sig .tc := ⟨.hbm, 153, rfl⟩
abbrev main_while0b_call8_v0 : Ref sig .tc := ⟨.hbm, 154, rfl⟩
abbrev main_while0b_call8_c : Ref sig .tc := ⟨.hbm, 155, rfl⟩
abbrev main_while0b_call8_c_0 : Ref sig .tc := ⟨.hbm, 156, rfl⟩
abbrev main_while0b_v90 : Ref sig .tc := ⟨.hbm, 157, rfl⟩
abbrev main_while0b_c_11 : Ref sig .tc := ⟨.hbm, 158, rfl⟩
abbrev main_while0b_v91 : Ref sig .tc := ⟨.hbm, 159, rfl⟩
abbrev main_v58 : Ref sig .tc := ⟨.hbm, 160, rfl⟩
abbrev main_v59 : Ref sig .tc := ⟨.hbm, 161, rfl⟩
abbrev main_v60 : Ref sig .tc := ⟨.hbm, 162, rfl⟩
abbrev main_v61 : Ref sig .tc := ⟨.hbm, 163, rfl⟩
abbrev main_v62 : Ref sig .tc := ⟨.hbm, 164, rfl⟩
abbrev main_v63 : Ref sig .tc := ⟨.hbm, 165, rfl⟩
abbrev main_v64 : Ref sig .tc := ⟨.hbm, 166, rfl⟩

abbrev nD : Nat := 1
abbrev τ : Topo := Topo.v7x

variable {F : FTy → Type} [FloatOps F]

abbrev main_while0_count : Scf.Loop 32 := ⟨0#32, 4096#32, 1#32⟩
-- ==== Proof.Body.lean ====
module

public import proofs.«01_k».proof.Proof.Gen.KernelIdeal.Loops
public import proofs.«01_k».proof.Proof.Gen.KernelIdeal.Frame

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What memref `M`'s buffer on core `c` can hold. -/
abbrev Bf (c : Dev nD) {sp : Space} {S : Shape} {e : EltTy} (M : Memref sig .tc sp S e) : Type :=
  Buf (Elt F) (M.view.loc (c : Thread nD τ))

/-- Memref `M`'s buffer on core `c`, held whole at `f`. -/
abbrev pt (c : Dev nD) {sp : Space} {S : Shape} {e : EltTy} (M : Memref sig .tc sp S e) (f : Bf (F := F) c M) : sProp 𝕄 :=
  M.view.loc (c : Thread nD τ) ↦[M.view.set]{fullShare} f

/-- The kernel's own test for the first column of the grid: the second coordinate is zero. -/
abbrev firstJ (i : grid0.Coords) : Prop :=
  Scalar.cmpi .ne (Scalar.extui (Scalar.cmpi .eq (BitVec.ofNat 32 (i 1).val) 0#32)) 0#32 = 1#1

variable (c : Dev nD) (i : grid0.Coords)
variable (arg2 : Memref sig .tc .vmem S2x512x512 .f32) (harg2 : arg2.IsWhole)
variable (arg3 : Memref sig .tc .vmem S2x8x512 .f32) (harg3 : arg3.IsWhole)
variable (arg4 : Memref sig .tc .vmem S512x1024 .bf16) (harg4 : arg4.IsWhole)
variable (arg5 : Memref sig .tc .vmem S512x1024 .bf16) (harg5 : arg5.IsWhole)
variable (arg6 : Memref sig .tc .vmem S1x1024 .f32) (harg6 : arg6.IsWhole)
variable (arg7 : Memref sig .tc .vmem S1x1024 .f32) (harg7 : arg7.IsWhole)
variable (arg8 : Memref sig .tc .vmem S3x1024 .f32) (harg8 : arg8.IsWhole)
variable (arg9 : Memref sig .tc .vmem S1x1024 .f32) (harg9 : arg9.IsWhole)
variable (arg10 : Memref sig .tc .vmem S32x1024 .bf16) (harg10 : arg10.IsWhole)
variable (arg11 : Memref sig .tc .vmem S16x1024 .bf16) (harg11 : arg11.IsWhole)
variable (arg12 : Memref sig .tc .vmem S16x1024 .bf16) (harg12 : arg12.IsWhole)
variable (arg13 : Memref sig .tc .vmem S32x1024 .bf16) (harg13 : arg13.IsWhole)
variable (arg14 : Memref sig .tc .vmem S1x1024 .f32) (harg14 : arg14.IsWhole)
variable (arg15 : Memref sig .tc .vmem S16x1024 .f32) (harg15 : arg15.IsWhole)
variable (arg16 : Memref sig .tc .vmem S1x1024 .f32) (harg16 : arg16.IsWhole)
variable (arg17 : Memref sig .tc .vmem S1024x512 .bf16) (harg17 : arg17.IsWhole)
variable (arg18 : Memref sig .tc .vmem S1x512 .f32) (harg18 : arg18.IsWhole)
variable (arg19 : Memref sig .tc .vmem S2x512x512 .f32) (harg19 : arg19.IsWhole)
variable (arg20 : Memref sig .tc .vmem S1024x1024 .f32) (harg20 : arg20.IsWhole)
variable (arg21 : Memref sig .tc .vmem S2x64x8x1024 .f32) (harg21 : arg21.IsWhole)
variable (arg22 : Memref sig .tc .vmem S2x64x8x1024 .f32) (harg22 : arg22.IsWhole)
variable (arg23 : Memref sig .tc .vmem S2x64x8x16 .f32) (harg23 : arg23.IsWhole)
variable (arg24 : Memref sig .tc .vmem S2x64x8x16 .f32) (harg24 : arg24.IsWhole)
variable (arg25 : Memref sig .tc .vmem S2x64x8x1024 .f32) (harg25 : arg25.IsWhole)
variable (arg26 : Memref sig .tc .vmem S2x16x1024 .f32) (harg26 : arg26.IsWhole)
variable (arg27 : Memref sig .tc .vmem S2x1024 .f32) (harg27 : arg27.IsWhole)
variable (f2 : Bf (F := F) c arg2)
variable (f3 : Bf (F := F) c arg3)
variable (f4 : Bf (F := F) c arg4)
variable (f5 : Bf (F := F) c arg5)
variable (f6 : Bf (F := F) c arg6)
variable (f7 : Bf (F := F) c arg7)
variable (f8 : Bf (F := F) c arg8)
variable (f9 : Bf (F := F) c arg9)
variable (f10 : Bf (F := F) c arg10)
variable (f11 : Bf (F := F) c arg11)
variable (f12 : Bf (F := F) c arg12)
variable (f13 : Bf (F := F) c arg13)
variable (f14 : Bf (F := F) c arg14)
variable (f15 : Bf (F := F) c arg15)
variable (f16 : Bf (F := F) c arg16)
variable (f17 : Bf (F := F) c arg17)
variable (f18 : Bf (F := F) c arg18)
variable (f19 : Bf (F := F) c arg19)
variable (f20 : Bf (F := F) c arg20)
variable (f21 : Bf (F := F) c arg21)
variable (f22 : Bf (F := F) c arg22)
variable (f23 : Bf (F := F) c arg23)
variable (f24 : Bf (F := F) c arg24)
variable (f25 : Bf (F := F) c arg25)
variable (f26 : Bf (F := F) c arg26)
variable (f27 : Bf (F := F) c arg27)

set_option maxHeartbeats 8000000 in
noncomputable def runA (hc : firstJ i) :
    Σ' (g19 : Bf (F := F) c arg19) (g26 : Bf (F := F) c arg26), { g27 : Bf (F := F) c arg27 //
      ∀ (E : Set ℕ) (K : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27
            ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 g19 ∗ (∃ f, pt c arg20 f) ∗ (∃ f, pt c arg21 f) ∗ (∃ f, pt c arg22 f) ∗ (∃ f, pt c arg23 f) ∗ (∃ f, pt c arg24 f) ∗ (∃ f, pt c arg25 f) ∗ pt c arg26 g26 ∗ pt c arg27 g27) -∗ K ⟨⟩))
          ⊢ wp frame (wpE (defs₀ (F := F)) Variants.none c none) E (cc0_vsss_block1d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, fun E K => ?run⟩
  case run =>
    simp only [cc0_vsss_block1d_eq_skeleton]; unfold cc0_vsss_block1d_skel
    simp only [k0_part7_eq_skeleton, k0_part8_eq_skeleton, k0_part9_eq_skeleton, k0_part10_eq_skeleton, k0_part11_eq_skeleton]
    iintro ⟨H2, H3, H4, H5, H6, H7, H8, H9, H10, H11, H12, H13, H14, H15, H16, H17, H18, H19, H20, H21, H22, H23, H24, H25, H26, H27, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexact H26
    iexact H27

set_option maxHeartbeats 8000000 in
noncomputable def runB (hc : ¬ firstJ i) :
    Σ' (g19 : Bf (F := F) c arg19) (g26 : Bf (F := F) c arg26), { g27 : Bf (F := F) c arg27 //
      ∀ (E : Set ℕ) (K : PUnit → sProp 𝕄),
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27
            ∗ (iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 g19 ∗ (∃ f, pt c arg20 f) ∗ (∃ f, pt c arg21 f) ∗ (∃ f, pt c arg22 f) ∗ (∃ f, pt c arg23 f) ∗ (∃ f, pt c arg24 f) ∗ (∃ f, pt c arg25 f) ∗ pt c arg26 g26 ∗ pt c arg27 g27) -∗ K ⟨⟩))
          ⊢ wp frame (wpE (defs₀ (F := F)) Variants.none c none) E (cc0_vsss_block1d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K } := by
  refine ⟨?_, ?_, ?_, fun E K => ?run⟩
  case run =>
    simp only [cc0_vsss_block1d_eq_skeleton]; unfold cc0_vsss_block1d_skel
    simp only [k0_part7_eq_skeleton, k0_part8_eq_skeleton, k0_part9_eq_skeleton, k0_part10_eq_skeleton, k0_part11_eq_skeleton]
    iintro ⟨H2, H3, H4, H5, H6, H7, H8, H9, H10, H11, H12, H13, H14, H15, H16, H17, H18, H19, H20, H21, H22, H23, H24, H25, H26, H27, Hk⟩
    sl_exec
    sl_step
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexact H26
    iexact H27

end Cert.KernelIdeal.Body

end
-- ==== Proof.Trip.lean ====
module

public import proofs.«01_k».proof.Proof.Gen.KernelIdeal.Loops
import all proofs.«01_k».proof.Proof.Gen.KernelIdeal.Loops
public import Idealize.ShloMosaic.Lib.ValueIdxCore

@[expose] public section

set_option maxRecDepth 16384

noncomputable section

namespace Cert.KernelIdeal.Body

open Cert.KernelIdeal Cert.KernelIdeal.Gen
open Idealize.ShloMosaic Idealize.ShloMosaic.TcCoe Idealize.ShloMosaic.Tactic

variable {F : FTy → Type} [FloatOps F]

/-- One trip of the scan on the first image of the block: from the carried state `h` and eight rows of
the step sizes `dl`, the inputs `u` and the two state weights `b`, `c`, the state after the eight rows
and the eight rows of output. -/
def tripA (a h : FVec F S16x1024 .f32) (dl u : FVec F S1x1x8x1024 .f32) (b c : FVec F S1x1x8x16 .f32) :
    FVec F S16x1024 .f32 × FVec F S1x1x8x1024 .f32 :=
  let v178 := k0_pay2 dl
  let v184 := k0_pay3 b
  let v188 := k0_pay4 dl u
  let v189 := k0_pay5 c
  let v215 := k0_pay9 a h dl u b c
  let v221 := k0_pay10 a h dl u b
  let v227 := k0_pay11 v189 v221
  let v253 := k0_pay15 a v178 v184 v188 v189 v221
  let v259 := k0_pay16 a v178 v184 v188 v221
  let v265 := k0_pay17 a v178 v184 v188 v189 v221
  let v272 := k0_pay18 a v178
  let v277 := k0_pay19 v188
  let v278 := k0_pay20 v184
  let v291 := k0_pay23 v189 v259 v272 v277 v278
  let v303 := k0_pay25 v189 v259 v272 v277 v278
  let v329 := k0_pay29 a v178 v184 v188 v189 v259 v272 v277 v278
  let v335 := k0_pay30 a v178 v184 v188 v259 v272 v277 v278
  (v335, k0_pay31 v189 v215 v227 v253 v265 v291 v303 v329 v335)

/-- One trip of the scan on the second image of the block. -/
def tripB (a h : FVec F S16x1024 .f32) (dl u : FVec F S1x1x8x1024 .f32) (b c : FVec F S1x1x8x16 .f32) :
    FVec F S16x1024 .f32 × FVec F S1x1x8x1024 .f32 :=
  let v349 := k0_pay32 dl
  let v355 := k0_pay33 b
  let v359 := k0_pay34 dl u
  let v360 := k0_pay35 c
  let v367 := k0_pay36 a dl
  let v374 := k0_pay37 dl u b
  let v377 := k0_pay38 a h dl
  let v378 := k0_pay39 dl u b
  let v386 := k0_pay41 v360 v377 v378
  let v398 := k0_pay43 v360 v367 v374 v377 v378
  let v424 := k0_pay47 a v349 v355 v359 v360 v367 v374 v377 v378
  let v430 := k0_pay48 a v349 v355 v359 v367 v374 v377 v378
  let v434 := k0_pay49 a v349 v355 v359 v360 v367 v374 v377 v378
  let v436 := k0_pay50 v434
  let v462 := k0_pay54 a v349 v355 v359 v360 v430
  let v474 := k0_pay56 a v349 v355 v359 v360 v430
  let v481 := k0_pay57 a v349
  let v488 := k0_pay58 v355 v359
  let v491 := k0_pay59 a v349 v355 v359 v430
  let v492 := k0_pay60 v355 v359
  (k0_pay86 v481 v488 v491 v492, k0_pay87 v360 v386 v398 v424 v436 v462 v474 v481 v488 v491 v492)

variable (c : Dev nD) (i : grid0.Coords)
variable (arg2 : Memref sig .tc .vmem S2x512x512 .f32) (harg2 : arg2.IsWhole)
variable (arg3 : Memref sig .tc .vmem S2x8x512 .f32) (harg3 : arg3.IsWhole)
variable (arg4 : Memref sig .tc .vmem S512x1024 .bf16) (harg4 : arg4.IsWhole)
variable (arg5 : Memref sig .tc .vmem S512x1024 .bf16) (harg5 : arg5.IsWhole)
variable (arg6 : Memref sig .tc .vmem S1x1024 .f32) (harg6 : arg6.IsWhole)
variable (arg7 : Memref sig .tc .vmem S1x1024 .f32) (harg7 : arg7.IsWhole)
variable (arg8 : Memref sig .tc .vmem S3x1024 .f32) (harg8 : arg8.IsWhole)
variable (arg9 : Memref sig .tc .vmem S1x1024 .f32) (harg9 : arg9.IsWhole)
variable (arg10 : Memref sig .tc .vmem S32x1024 .bf16) (harg10 : arg10.IsWhole)
variable (arg11 : Memref sig .tc .vmem S16x1024 .bf16) (harg11 : arg11.IsWhole)
variable (arg12 : Memref sig .tc .vmem S16x1024 .bf16) (harg12 : arg12.IsWhole)
variable (arg13 : Memref sig .tc .vmem S32x1024 .bf16) (harg13 : arg13.IsWhole)
variable (arg14 : Memref sig .tc .vmem S1x1024 .f32) (harg14 : arg14.IsWhole)
variable (arg15 : Memref sig .tc .vmem S16x1024 .f32) (harg15 : arg15.IsWhole)
variable (arg16 : Memref sig .tc .vmem S1x1024 .f32) (harg16 : arg16.IsWhole)
variable (arg17 : Memref sig .tc .vmem S1024x512 .bf16) (harg17 : arg17.IsWhole)
variable (arg18 : Memref sig .tc .vmem S1x512 .f32) (harg18 : arg18.IsWhole)
variable (arg19 : Memref sig .tc .vmem S2x512x512 .f32) (harg19 : arg19.IsWhole)
variable (arg20 : Memref sig .tc .vmem S1024x1024 .f32) (harg20 : arg20.IsWhole)
variable (arg21 : Memref sig .tc .vmem S2x64x8x1024 .f32) (harg21 : arg21.IsWhole)
variable (arg22 : Memref sig .tc .vmem S2x64x8x1024 .f32) (harg22 : arg22.IsWhole)
variable (arg23 : Memref sig .tc .vmem S2x64x8x16 .f32) (harg23 : arg23.IsWhole)
variable (arg24 : Memref sig .tc .vmem S2x64x8x16 .f32) (harg24 : arg24.IsWhole)
variable (arg25 : Memref sig .tc .vmem S2x64x8x1024 .f32) (harg25 : arg25.IsWhole)
variable (arg26 : Memref sig .tc .vmem S2x16x1024 .f32) (harg26 : arg26.IsWhole)
variable (arg27 : Memref sig .tc .vmem S2x1024 .f32) (harg27 : arg27.IsWhole)
variable (f21 : Buf (Elt F) (arg21.view.loc (c : Thread nD τ)))
variable (f22 : Buf (Elt F) (arg22.view.loc (c : Thread nD τ)))
variable (f23 : Buf (Elt F) (arg23.view.loc (c : Thread nD τ)))
variable (f24 : Buf (Elt F) (arg24.view.loc (c : Thread nD τ)))
variable (v138 v143 : FVec F S16x1024 .f32)

/-- What one trip of the loop carries on: both images' states after the trip. -/
theorem trip_R (k : Fin k0_t1_loop.trips) (acc : FVec F S16x1024 .f32 × FVec F S16x1024 .f32) :
    tripR_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v138 v143 f21 f22 f23 f24 k acc = ((tripA v138 acc.1 (arg22.view.readAt (Elt F) (Rect.unit (s := S2x64x8x1024) (k0_off1 k) S1x1x8x1024.size (k0_off1_inb k)).toLoadRect f22) (arg21.view.readAt (Elt F) (Rect.unit (s := S2x64x8x1024) (k0_off1 k) S1x1x8x1024.size (k0_off1_inb k)).toLoadRect f21) (arg23.view.readAt (Elt F) (Rect.unit (s := S2x64x8x16) (k0_off2 k) S1x1x8x16.size (k0_off2_inb k)).toLoadRect f23) (arg24.view.readAt (Elt F) (Rect.unit (s := S2x64x8x16) (k0_off2 k) S1x1x8x16.size (k0_off2_inb k)).toLoadRect f24)).1, (tripB v138 acc.2 (arg22.view.readAt (Elt F) (Rect.unit (s := S2x64x8x1024) (k0_off3 k) S1x1x8x1024.size (k0_off3_inb k)).toLoadRect f22) (arg21.view.readAt (Elt F) (Rect.unit (s := S2x64x8x1024) (k0_off3 k) S1x1x8x1024.size (k0_off3_inb k)).toLoadRect f21) (arg23.view.readAt (Elt F) (Rect.unit (s := S2x64x8x16) (k0_off4 k) S1x1x8x16.size (k0_off4_inb k)).toLoadRect f23) (arg24.view.readAt (Elt F) (Rect.unit (s := S2x64x8x16) (k0_off4 k) S1x1x8x16.size (k0_off4_inb k)).toLoadRect f24)).1) := by
  unfold tripR_k0_t1 trip_k0_t1
  dsimp only
  rfl

/-- What one trip of the loop stores: both images' rows of output. -/
theorem trip_L (k : Fin k0_t1_loop.trips) (acc : FVec F S16x1024 .f32 × FVec F S16x1024 .f32) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v138 v143 f21 f22 f23 f24 k acc =
      [⟨Rect.unit (k0_off3 k) S1x1x8x1024.size (k0_off3_inb k), (tripB v138 acc.2 (arg22.view.readAt (Elt F) (Rect.unit (s := S2x64x8x1024) (k0_off3 k) S1x1x8x1024.size (k0_off3_inb k)).toLoadRect f22) (arg21.view.readAt (Elt F) (Rect.unit (s := S2x64x8x1024) (k0_off3 k) S1x1x8x1024.size (k0_off3_inb k)).toLoadRect f21) (arg23.view.readAt (Elt F) (Rect.unit (s := S2x64x8x16) (k0_off4 k) S1x1x8x16.size (k0_off4_inb k)).toLoadRect f23) (arg24.view.readAt (Elt F) (Rect.unit (s := S2x64x8x16) (k0_off4 k) S1x1x8x16.size (k0_off4_inb k)).toLoadRect f24)).2⟩, ⟨Rect.unit (k0_off1 k) S1x1x8x1024.size (k0_off1_inb k), (tripA v138 acc.1 (arg22.view.readAt (Elt F) (Rect.unit (s := S2x64x8x1024) (k0_off1 k) S1x1x8x1024.size (k0_off1_inb k)).toLoadRect f22) (arg21.view.readAt (Elt F) (Rect.unit (s := S2x64x8x1024) (k0_off1 k) S1x1x8x1024.size (k0_off1_inb k)).toLoadRect f21) (arg23.view.readAt (Elt F) (Rect.unit (s := S2x64x8x16) (k0_off2 k) S1x1x8x16.size (k0_off2_inb k)).toLoadRect f23) (arg24.view.readAt (Elt F) (Rect.unit (s := S2x64x8x16) (k0_off2 k) S1x1x8x16.size (k0_off2_inb k)).toLoadRect f24)).2⟩] := by
  unfold tripL_k0_t1 trip_k0_t1
  dsimp only
  rfl

end Cert.KernelIdeal.Body
end
-- ==== Proof.Scan.lean ====
module

public import proofs.«01_k».proof.Proof.Trip
public import Idealize.ShloMosaic.Lib.ValueIdxCore

@[expose] public section

set_option maxRecDepth 16384

noncomputable section

namespace Cert.KernelIdeal.Body

open Cert.KernelIdeal Cert.KernelIdeal.Gen
open Idealize.ShloMosaic.ValueIdx
open Idealize.ShloMosaic Idealize.ShloMosaic.TcCoe Idealize.ShloMosaic.Tactic

variable {F : FTy → Type} [FloatOps F]

/-- Eight rows of a block of rows: trip `k`'s rows of image `g`. -/
def rows8 (X : FVec F S2x64x8x1024 .f32) (g : Fin 2) (k : Fin 64) : FVec F S1x1x8x1024 .f32 := fun y => X (ix4 g k (y 2) (y 3))

/-- Eight rows of a block of rows of the narrow kind. -/
def rows8n (X : FVec F S2x64x8x16 .f32) (g : Fin 2) (k : Fin 64) : FVec F S1x1x8x16 .f32 := fun y => X (ix4 g k (y 2) (y 3))

/-- Trip `k` on the first image, its rows taken from the whole blocks. -/
def stepA (a : FVec F S16x1024 .f32) (U D : FVec F S2x64x8x1024 .f32) (B C : FVec F S2x64x8x16 .f32) (k : Fin 64)
    (h : FVec F S16x1024 .f32) : FVec F S16x1024 .f32 × FVec F S1x1x8x1024 .f32 :=
  tripA a h (rows8 D 0 k) (rows8 U 0 k) (rows8n B 0 k) (rows8n C 0 k)

/-- Trip `k` on the second image, its rows taken from the whole blocks. -/
def stepB (a : FVec F S16x1024 .f32) (U D : FVec F S2x64x8x1024 .f32) (B C : FVec F S2x64x8x16 .f32) (k : Fin 64)
    (h : FVec F S16x1024 .f32) : FVec F S16x1024 .f32 × FVec F S1x1x8x1024 .f32 :=
  tripB a h (rows8 D 1 k) (rows8 U 1 k) (rows8n B 1 k) (rows8n C 1 k)

/-- The two carried states before trip `k`. -/
def carry (a : FVec F S16x1024 .f32) (U D : FVec F S2x64x8x1024 .f32) (B C : FVec F S2x64x8x16 .f32)
    (h0 : FVec F S16x1024 .f32 × FVec F S16x1024 .f32) : ℕ → FVec F S16x1024 .f32 × FVec F S16x1024 .f32
  | 0 => h0
  | k + 1 => if hk : k < 64 then ((stepA a U D B C ⟨k, hk⟩ (carry a U D B C h0 k).1).1, (stepB a U D B C ⟨k, hk⟩ (carry a U D B C h0 k).2).1)
      else carry a U D B C h0 k

/-- All rows of output the 64 trips store. -/
def scanOut (a : FVec F S16x1024 .f32) (U D : FVec F S2x64x8x1024 .f32) (B C : FVec F S2x64x8x16 .f32)
    (h0 : FVec F S16x1024 .f32 × FVec F S16x1024 .f32) : FVec F S2x64x8x1024 .f32 := fun y =>
  if (y 0).val = 0 then (stepA a U D B C (y 1) (carry a U D B C h0 (y 1).val).1).2 (ix4 0 0 (y 2) (y 3))
  else (stepB a U D B C (y 1) (carry a U D B C h0 (y 1).val).2).2 (ix4 0 0 (y 2) (y 3))

/-- The rows of output of the first image. -/
theorem scanOut_zero (a : FVec F S16x1024 .f32) (U D : FVec F S2x64x8x1024 .f32) (B C : FVec F S2x64x8x16 .f32)
    (h0 : FVec F S16x1024 .f32 × FVec F S16x1024 .f32) (k : Fin 64) (r : Fin 8) (d : Fin 1024) :
    scanOut a U D B C h0 (ix4 0 k r d) = (stepA a U D B C k (carry a U D B C h0 k.val).1).2 (ix4 0 0 r d) :=
  if_pos rfl

/-- The rows of output of the second image. -/
theorem scanOut_one (a : FVec F S16x1024 .f32) (U D : FVec F S2x64x8x1024 .f32) (B C : FVec F S2x64x8x16 .f32)
    (h0 : FVec F S16x1024 .f32 × FVec F S16x1024 .f32) (k : Fin 64) (r : Fin 8) (d : Fin 1024) :
    scanOut a U D B C h0 (ix4 1 k r d) = (stepB a U D B C k (carry a U D B C h0 k.val).2).2 (ix4 0 0 r d) :=
  if_neg (by show ¬((1 : ℕ) = 0); decide)

/-- A load of eight rows of image 0 or 1 reads those rows of what the memory holds. -/
theorem load_rows8 {sp : Space} (M : Memref sig .tc sp S2x64x8x1024 .f32) (f : M.view.ty.Contents (Elt F)) (off : Fin 4 → ℕ)
    (g : Fin 2) (k : Fin 64) (ho : off = ![g.val, k.val, 0, 0]) (inb : ∀ a, off a + S1x1x8x1024.size a ≤ S2x64x8x1024.size a) :
    M.view.readAt (Elt F) (Rect.unit (s := S2x64x8x1024) off S1x1x8x1024.size inb).toLoadRect f = rows8 (M.view.read (Elt F) f) g k := by
  subst ho
  funext y
  refine congrArg (M.view.read (Elt F) f) (funext fun a => Fin.ext ?_)
  have h0 : (y 0).val = 0 := by have h := (y 0).isLt; change (y 0).val < 1 at h; omega
  have h1 : (y 1).val = 0 := by have h := (y 1).isLt; change (y 1).val < 1 at h; omega
  match a with
  | ⟨0, _⟩ => show g.val + 1 * (y 0).val = g.val; omega
  | ⟨1, _⟩ => show k.val + 1 * (y 1).val = k.val; omega
  | ⟨2, _⟩ => show 0 + 1 * (y 2).val = (y 2).val; omega
  | ⟨3, _⟩ => show 0 + 1 * (y 3).val = (y 3).val; omega

/-- The same for the narrow kind of rows. -/
theorem load_rows8n {sp : Space} (M : Memref sig .tc sp S2x64x8x16 .f32) (f : M.view.ty.Contents (Elt F)) (off : Fin 4 → ℕ)
    (g : Fin 2) (k : Fin 64) (ho : off = ![g.val, k.val, 0, 0]) (inb : ∀ a, off a + S1x1x8x16.size a ≤ S2x64x8x16.size a) :
    M.view.readAt (Elt F) (Rect.unit (s := S2x64x8x16) off S1x1x8x16.size inb).toLoadRect f = rows8n (M.view.read (Elt F) f) g k := by
  subst ho
  funext y
  refine congrArg (M.view.read (Elt F) f) (funext fun a => Fin.ext ?_)
  have h0 : (y 0).val = 0 := by have h := (y 0).isLt; change (y 0).val < 1 at h; omega
  have h1 : (y 1).val = 0 := by have h := (y 1).isLt; change (y 1).val < 1 at h; omega
  match a with
  | ⟨0, _⟩ => show g.val + 1 * (y 0).val = g.val; omega
  | ⟨1, _⟩ => show k.val + 1 * (y 1).val = k.val; omega
  | ⟨2, _⟩ => show 0 + 1 * (y 2).val = (y 2).val; omega
  | ⟨3, _⟩ => show 0 + 1 * (y 3).val = (y 3).val; omega

/-- Where eight rows of image `g` at trip `k` lie in the block. -/
theorem emb_rows8 (off : Fin 4 → ℕ) (g : Fin 2) (k : Fin 64) (ho : off = ![g.val, k.val, 0, 0])
    (inb : ∀ a, off a + S1x1x8x1024.size a ≤ S2x64x8x1024.size a) (x : S1x1x8x1024.Idx) :
    (Rect.unit (s := S2x64x8x1024) off S1x1x8x1024.size inb).emb x = ix4 g k (x 2) (x 3) := by
  subst ho
  refine funext fun a => Fin.ext ?_
  have h0 : (x 0).val = 0 := by have h := (x 0).isLt; change (x 0).val < 1 at h; omega
  have h1 : (x 1).val = 0 := by have h := (x 1).isLt; change (x 1).val < 1 at h; omega
  match a with
  | ⟨0, _⟩ => show g.val + 1 * (x 0).val = g.val; omega
  | ⟨1, _⟩ => show k.val + 1 * (x 1).val = k.val; omega
  | ⟨2, _⟩ => show 0 + 1 * (x 2).val = (x 2).val; omega
  | ⟨3, _⟩ => show 0 + 1 * (x 3).val = (x 3).val; omega

/-- The loop makes 64 trips. -/
theorem trips_64 : k0_t1_loop.trips = 64 := by decide +kernel

/-- The place of the one row index of a slab of eight rows. -/
theorem ix4_slab (x : S1x1x8x1024.Idx) : (ix4 0 0 (x 2) (x 3) : S1x1x8x1024.Idx) = x := by
  funext a
  match a with
  | ⟨0, _⟩ => exact Fin.ext (by show 0 = (x 0).val; have h := (x 0).isLt; change (x 0).val < 1 at h; omega)
  | ⟨1, _⟩ => exact Fin.ext (by show 0 = (x 1).val; have h := (x 1).isLt; change (x 1).val < 1 at h; omega)
  | ⟨2, _⟩ => rfl
  | ⟨3, _⟩ => rfl

variable (c : Dev nD) (i : grid0.Coords)
variable (arg2 : Memref sig .tc .vmem S2x512x512 .f32) (harg2 : arg2.IsWhole)
variable (arg3 : Memref sig .tc .vmem S2x8x512 .f32) (harg3 : arg3.IsWhole)
variable (arg4 : Memref sig .tc .vmem S512x1024 .bf16) (harg4 : arg4.IsWhole)
variable (arg5 : Memref sig .tc .vmem S512x1024 .bf16) (harg5 : arg5.IsWhole)
variable (arg6 : Memref sig .tc .vmem S1x1024 .f32) (harg6 : arg6.IsWhole)
variable (arg7 : Memref sig .tc .vmem S1x1024 .f32) (harg7 : arg7.IsWhole)
variable (arg8 : Memref sig .tc .vmem S3x1024 .f32) (harg8 : arg8.IsWhole)
variable (arg9 : Memref sig .tc .vmem S1x1024 .f32) (harg9 : arg9.IsWhole)
variable (arg10 : Memref sig .tc .vmem S32x1024 .bf16) (harg10 : arg10.IsWhole)
variable (arg11 : Memref sig .tc .vmem S16x1024 .bf16) (harg11 : arg11.IsWhole)
variable (arg12 : Memref sig .tc .vmem S16x1024 .bf16) (harg12 : arg12.IsWhole)
variable (arg13 : Memref sig .tc .vmem S32x1024 .bf16) (harg13 : arg13.IsWhole)
variable (arg14 : Memref sig .tc .vmem S1x1024 .f32) (harg14 : arg14.IsWhole)
variable (arg15 : Memref sig .tc .vmem S16x1024 .f32) (harg15 : arg15.IsWhole)
variable (arg16 : Memref sig .tc .vmem S1x1024 .f32) (harg16 : arg16.IsWhole)
variable (arg17 : Memref sig .tc .vmem S1024x512 .bf16) (harg17 : arg17.IsWhole)
variable (arg18 : Memref sig .tc .vmem S1x512 .f32) (harg18 : arg18.IsWhole)
variable (arg19 : Memref sig .tc .vmem S2x512x512 .f32) (harg19 : arg19.IsWhole)
variable (arg20 : Memref sig .tc .vmem S1024x1024 .f32) (harg20 : arg20.IsWhole)
variable (arg21 : Memref sig .tc .vmem S2x64x8x1024 .f32) (harg21 : arg21.IsWhole)
variable (arg22 : Memref sig .tc .vmem S2x64x8x1024 .f32) (harg22 : arg22.IsWhole)
variable (arg23 : Memref sig .tc .vmem S2x64x8x16 .f32) (harg23 : arg23.IsWhole)
variable (arg24 : Memref sig .tc .vmem S2x64x8x16 .f32) (harg24 : arg24.IsWhole)
variable (arg25 : Memref sig .tc .vmem S2x64x8x1024 .f32) (harg25 : arg25.IsWhole)
variable (arg26 : Memref sig .tc .vmem S2x16x1024 .f32) (harg26 : arg26.IsWhole)
variable (arg27 : Memref sig .tc .vmem S2x1024 .f32) (harg27 : arg27.IsWhole)
variable (f21 : Buf (Elt F) (arg21.view.loc (c : Thread nD τ)))
variable (f22 : Buf (Elt F) (arg22.view.loc (c : Thread nD τ)))
variable (f23 : Buf (Elt F) (arg23.view.loc (c : Thread nD τ)))
variable (f24 : Buf (Elt F) (arg24.view.loc (c : Thread nD τ)))
variable (v138 v143 : FVec F S16x1024 .f32)
variable (init : FVec F S16x1024 .f32 × FVec F S16x1024 .f32)

/-- One trip from carried states `acc`: the two steps on the rows the buffers hold. -/
theorem trip_R' (k : Fin k0_t1_loop.trips) (hk : k.val < 64) (acc : FVec F S16x1024 .f32 × FVec F S16x1024 .f32) :
    tripR_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v138 v143 f21 f22 f23 f24 k acc = ((stepA v138 (arg21.view.read (Elt F) f21) (arg22.view.read (Elt F) f22) (arg23.view.read (Elt F) f23) (arg24.view.read (Elt F) f24) ⟨k, hk⟩ acc.1).1, (stepB v138 (arg21.view.read (Elt F) f21) (arg22.view.read (Elt F) f22) (arg23.view.read (Elt F) f23) (arg24.view.read (Elt F) f24) ⟨k, hk⟩ acc.2).1) := by
  rw [trip_R]
  rw [load_rows8 arg22 f22 _ 0 ⟨k, hk⟩ (k0_off1_eq k), load_rows8 arg21 f21 _ 0 ⟨k, hk⟩ (k0_off1_eq k),
    load_rows8n arg23 f23 _ 0 ⟨k, hk⟩ (k0_off2_eq k), load_rows8n arg24 f24 _ 0 ⟨k, hk⟩ (k0_off2_eq k),
    load_rows8 arg22 f22 _ 1 ⟨k, hk⟩ (k0_off3_eq k), load_rows8 arg21 f21 _ 1 ⟨k, hk⟩ (k0_off3_eq k),
    load_rows8n arg23 f23 _ 1 ⟨k, hk⟩ (k0_off4_eq k), load_rows8n arg24 f24 _ 1 ⟨k, hk⟩ (k0_off4_eq k)]
  rfl

/-- What one trip stores: the two steps' rows of output. -/
theorem trip_L' (k : Fin k0_t1_loop.trips) (hk : k.val < 64) (acc : FVec F S16x1024 .f32 × FVec F S16x1024 .f32) :
    tripL_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v138 v143 f21 f22 f23 f24 k acc =
      [⟨Rect.unit (k0_off3 k) S1x1x8x1024.size (k0_off3_inb k), (stepB v138 (arg21.view.read (Elt F) f21) (arg22.view.read (Elt F) f22) (arg23.view.read (Elt F) f23) (arg24.view.read (Elt F) f24) ⟨k, hk⟩ acc.2).2⟩,
       ⟨Rect.unit (k0_off1 k) S1x1x8x1024.size (k0_off1_inb k), (stepA v138 (arg21.view.read (Elt F) f21) (arg22.view.read (Elt F) f22) (arg23.view.read (Elt F) f23) (arg24.view.read (Elt F) f24) ⟨k, hk⟩ acc.1).2⟩] := by
  rw [trip_L]
  rw [load_rows8 arg22 f22 _ 0 ⟨k, hk⟩ (k0_off1_eq k), load_rows8 arg21 f21 _ 0 ⟨k, hk⟩ (k0_off1_eq k),
    load_rows8n arg23 f23 _ 0 ⟨k, hk⟩ (k0_off2_eq k), load_rows8n arg24 f24 _ 0 ⟨k, hk⟩ (k0_off2_eq k),
    load_rows8 arg22 f22 _ 1 ⟨k, hk⟩ (k0_off3_eq k), load_rows8 arg21 f21 _ 1 ⟨k, hk⟩ (k0_off3_eq k),
    load_rows8n arg23 f23 _ 1 ⟨k, hk⟩ (k0_off4_eq k), load_rows8n arg24 f24 _ 1 ⟨k, hk⟩ (k0_off4_eq k)]
  rfl

/-- The states the loop carries are those of the recursion on trips. -/
theorem st_fst (k : ℕ) (hk : k ≤ 64) : (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v138 v143 f21 f22 f23 f24 init k).1 = carry v138 (arg21.view.read (Elt F) f21) (arg22.view.read (Elt F) f22) (arg23.view.read (Elt F) f23) (arg24.view.read (Elt F) f24) init k := by
  induction k with
  | zero => rfl
  | succ k ih =>
    have hlt : k < k0_t1_loop.trips := by rw [trips_64]; omega
    have e := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v138 v143 f21 f22 f23 f24 init ⟨k, hlt⟩
    rw [show k + 1 = (⟨k, hlt⟩ : Fin k0_t1_loop.trips).val + 1 from rfl, e, carry, dif_pos (show k < 64 by omega)]
    dsimp only
    rw [trip_R' (hk := by show k < 64; omega), ih (by omega)]

/-- Every piece the first `k` trips store holds the rows of output at its place. -/
theorem st_pieces (k : ℕ) (hk : k ≤ 64) : ∀ p ∈ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v138 v143 f21 f22 f23 f24 init k).2, ∀ x : p.1.shape.Idx,
    p.2 x = scanOut v138 (arg21.view.read (Elt F) f21) (arg22.view.read (Elt F) f22) (arg23.view.read (Elt F) f23) (arg24.view.read (Elt F) f24) init (p.1.emb x) := by
  induction k with
  | zero => intro p hp; exact absurd hp List.not_mem_nil
  | succ k ih =>
    have hlt : k < k0_t1_loop.trips := by rw [trips_64]; omega
    have e := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v138 v143 f21 f22 f23 f24 init ⟨k, hlt⟩
    intro p hp
    rw [show k + 1 = (⟨k, hlt⟩ : Fin k0_t1_loop.trips).val + 1 from rfl, e] at hp
    dsimp only at hp
    rw [trip_L' (hk := by show k < 64; omega)] at hp
    rw [st_fst (hk := by omega)] at hp
    rcases List.mem_append.mp hp with h | h
    · rcases List.mem_cons.mp h with rfl | h
      · intro x
        dsimp only
        rw [emb_rows8 _ 1 ⟨k, by omega⟩ (k0_off3_eq ⟨k, hlt⟩)]; exact ((scanOut_one _ _ _ _ _ _ ⟨k, by omega⟩ (x 2) (x 3)).trans (congrArg (Prod.snd _) (ix4_slab x))).symm
      · rcases List.mem_cons.mp h with rfl | h
        · intro x
          dsimp only
          rw [emb_rows8 _ 0 ⟨k, by omega⟩ (k0_off1_eq ⟨k, hlt⟩)]; exact ((scanOut_zero _ _ _ _ _ _ ⟨k, by omega⟩ (x 2) (x 3)).trans (congrArg (Prod.snd _) (ix4_slab x))).symm
        · exact absurd h List.not_mem_nil
    · exact ih (by omega) p h

/-- The first `k` trips store every row up to trip `k`. -/
theorem st_cover (k : ℕ) (hk : k ≤ 64) (y : S2x64x8x1024.Idx) (hy : (y 1).val < k) :
    ∃ p ∈ (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v138 v143 f21 f22 f23 f24 init k).2, y ∈ p.1.set := by
  induction k with
  | zero => exact absurd hy (Nat.not_lt_zero _)
  | succ k ih =>
    have hlt : k < k0_t1_loop.trips := by rw [trips_64]; omega
    have e := st_k0_t1_succ (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v138 v143 f21 f22 f23 f24 init ⟨k, hlt⟩
    rw [show k + 1 = (⟨k, hlt⟩ : Fin k0_t1_loop.trips).val + 1 from rfl, e]
    dsimp only
    rcases Nat.lt_or_ge (y 1).val k with h | h
    · obtain ⟨p, hp, hm⟩ := ih (by omega) h
      exact ⟨p, List.mem_append_right _ hp, hm⟩
    · rw [trip_L' (hk := by show k < 64; omega)]
      have h0 := (y 0).isLt
      have h2 := (y 2).isLt
      have h3 := (y 3).isLt
      change (y 0).val < 2 at h0; change (y 2).val < 8 at h2; change (y 3).val < 1024 at h3
      rcases Nat.lt_or_ge 0 (y 0).val with hg | hg
      · refine ⟨_, List.mem_append_left _ List.mem_cons_self, ?_⟩
        rw [Rect.mem_set_unit, k0_off3_eq]
        intro a
        match a with
        | ⟨0, _⟩ => show 1 ≤ (y 0).val ∧ (y 0).val < 1 + 1; omega
        | ⟨1, _⟩ => show k ≤ (y 1).val ∧ (y 1).val < k + 1; omega
        | ⟨2, _⟩ => show 0 ≤ (y 2).val ∧ (y 2).val < 0 + 8; omega
        | ⟨3, _⟩ => show 0 ≤ (y 3).val ∧ (y 3).val < 0 + 1024; omega
      · refine ⟨_, List.mem_append_left _ (List.mem_cons_of_mem _ List.mem_cons_self), ?_⟩
        rw [Rect.mem_set_unit, k0_off1_eq]
        intro a
        match a with
        | ⟨0, _⟩ => show 0 ≤ (y 0).val ∧ (y 0).val < 0 + 1; omega
        | ⟨1, _⟩ => show k ≤ (y 1).val ∧ (y 1).val < k + 1; omega
        | ⟨2, _⟩ => show 0 ≤ (y 2).val ∧ (y 2).val < 0 + 8; omega
        | ⟨3, _⟩ => show 0 ≤ (y 3).val ∧ (y 3).val < 0 + 1024; omega

/-- After the loop the output buffer of the scan reads as all the rows of output. -/
theorem read_scan (f25 : arg25.view.ty.Contents (Elt F)) :
    arg25.view.read (Elt F) (arg25.view.writes (Elt F) f25 (st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 v138 v143 f21 f22 f23 f24 init k0_t1_loop.trips).2) = scanOut v138 (arg21.view.read (Elt F) f21) (arg22.view.read (Elt F) f22) (arg23.view.read (Elt F) f23) (arg24.view.read (Elt F) f24) init := by
  funext y
  have h64 : k0_t1_loop.trips ≤ 64 := by rw [trips_64]
  refine View.read_writes_apply_of_pieces _ _ _ _ (by apply st_pieces; exact h64) y (st_cover (hk := h64) (hy := ?_) ..)
  rw [trips_64]; exact (y 1).isLt

end Cert.KernelIdeal.Body
end
-- ==== Proof.Out.lean ====
module

public import proofs.«01_k».proof.Proof.Body
public import proofs.«01_k».proof.Proof.Scan
import all proofs.«01_k».proof.Proof.Body
import all proofs.«01_k».proof.Proof.Scan
public import Idealize.ShloMosaic.Lib.VecWindow
public import Idealize.ShloMosaic.Lib.Pipeline.Value

@[expose] public section

set_option maxRecDepth 16384
set_option maxHeartbeats 1000000

noncomputable section

namespace Cert.KernelIdeal.Body

open Cert.KernelIdeal Cert.KernelIdeal.Gen
open Idealize.ShloMosaic.ValueIdx
open Idealize.ShloMosaic Idealize.ShloMosaic.TcCoe Idealize.ShloMosaic.Tactic

variable {F : FTy → Type} [FloatOps F]

/-- What the kernel's input windows hold at one point of the grid: the block of the input, the rows just
after it, and the sixteen arrays of weights. -/
@[ext] structure Ins (F : FTy → Type) where
  x : FVec F S2x512x512 .f32
  xr : FVec F S2x1x512 .f32
  wu : FVec F S512x1024 .bf16
  wz : FVec F S512x1024 .bf16
  bu : FVec F S1x1024 .f32
  bz : FVec F S1x1024 .f32
  w0 : FVec F S1x1024 .f32
  w1 : FVec F S1x1024 .f32
  w2 : FVec F S1x1024 .f32
  cb : FVec F S1x1024 .f32
  wdtr : FVec F S32x1024 .bf16
  wb : FVec F S16x1024 .bf16
  wc : FVec F S16x1024 .bf16
  wdt : FVec F S32x1024 .bf16
  dtb : FVec F S1x1024 .f32
  al : FVec F S16x1024 .f32
  dr : FVec F S1x1024 .f32
  wo : FVec F S1024x512 .bf16
  bo : FVec F S1x512 .f32

/-- Row `r` of the three rows of convolution weights. -/
def cwRow (W : FVec F S3x1024 .f32) (r : Fin 3) : FVec F S1x1024 .f32 := fun y => W (ix2 r (y 1))

/-- The first of the rows after the block. -/
def firstRow (X : FVec F S2x8x512 .f32) : FVec F S2x1x512 .f32 := fun y => X (ix3 (y 0) 0 (y 2))

/-- The carried state of image `g`. -/
def plane (H : FVec F S2x16x1024 .f32) (g : Fin 2) : FVec F S1x16x1024 .f32 := fun y => H (ix3 g (y 1) (y 2))

/-- The first projection of the block. -/
def uRaw (I : Ins F) : FVec F S1024x1024 .f32 := k0_pay63 I.x I.wu I.bu

/-- The projection, each row replaced by the next one. -/
def uNext (j : BitVec 32) (I : Ins F) : FVec F S1024x1024 .f32 :=
  k0_pay70 j (uRaw I) (k0_pay65 I.xr) (k0_pay66 I.wu) I.bu

/-- The first two terms of the convolution: the previous row's and the row's own. -/
def uTwo (j : BitVec 32) (I : Ins F) (U : FVec F S2x1024 .f32) : FVec F S1024x1024 .f32 :=
  k0_pay71 j (uRaw I) U I.w0 I.w1

/-- The third row of convolution weights on every row. -/
def wThree (I : Ins F) : FVec F S1024x1024 .f32 := k0_pay72 I.w2

/-- The input of the scan. -/
def scanU (j : BitVec 32) (I : Ins F) (U : FVec F S2x1024 .f32) : FVec F S2x64x8x1024 .f32 :=
  k0_pay74 (uNext j I) (uTwo j I U) (wThree I) I.cb

/-- The step sizes of the scan. -/
def scanD (j : BitVec 32) (I : Ins F) (U : FVec F S2x1024 .f32) : FVec F S2x64x8x1024 .f32 :=
  k0_pay80 (k0_pay76 (uNext j I) (uTwo j I U) (wThree I) I.cb I.wdtr) I.wdt I.dtb

/-- The weights that enter the state. -/
def scanB (j : BitVec 32) (I : Ins F) (U : FVec F S2x1024 .f32) : FVec F S2x64x8x16 .f32 :=
  k0_pay77 (uNext j I) (uTwo j I U) (wThree I) I.cb I.wb

/-- The weights that read the state out. -/
def scanC (j : BitVec 32) (I : Ins F) (U : FVec F S2x1024 .f32) : FVec F S2x64x8x16 .f32 :=
  k0_pay79 (k0_pay78 (uNext j I) (uTwo j I U) (wThree I) I.cb I.wc)

/-- The two states the scan of a block starts from. -/
def start (p q : FVec F S1x16x1024 .f32) : FVec F S16x1024 .f32 × FVec F S16x1024 .f32 := (k0_pay83 p, k0_pay84 q)

/-- The two states before trip `k` of a block's scan. -/
def states (j : BitVec 32) (I : Ins F) (H : FVec F S2x16x1024 .f32) (U : FVec F S2x1024 .f32) (k : ℕ) : FVec F S16x1024 .f32 × FVec F S16x1024 .f32 :=
  carry (k0_pay81 I.al) (scanU j I U) (scanD j I U) (scanB j I U) (scanC j I U) (start (plane H 0) (plane H 1)) k

/-- The rows a block's scan produces. -/
def scanY (j : BitVec 32) (I : Ins F) (H : FVec F S2x16x1024 .f32) (U : FVec F S2x1024 .f32) : FVec F S2x64x8x1024 .f32 :=
  scanOut (k0_pay81 I.al) (scanU j I U) (scanD j I U) (scanB j I U) (scanC j I U) (start (plane H 0) (plane H 1))

/-- What the body stores into the output window. -/
def bodyOut (j : BitVec 32) (I : Ins F) (H : FVec F S2x16x1024 .f32) (U : FVec F S2x1024 .f32) : FVec F S2x512x512 .f32 :=
  k0_pay1 (k0_pay61 I.x) (k0_pay90 (scanY j I H U) I.dr (scanU j I U) (k0_pay64 I.x I.wz I.bz) I.wo I.bo)

/-- The carried states the body leaves. -/
def bodyH (j : BitVec 32) (I : Ins F) (H : FVec F S2x16x1024 .f32) (U : FVec F S2x1024 .f32) : FVec F S2x16x1024 .f32 := fun y =>
  if (y 0).val = 0 then k0_pay88 (states j I H U 64).1 (ix3 0 (y 1) (y 2)) else k0_pay89 (states j I H U 64).2 (ix3 0 (y 1) (y 2))

/-- The carried last rows of the projection the body leaves. -/
def bodyU (I : Ins F) : FVec F S2x1024 .f32 := k0_pay69 (uRaw I)

/-- In the first column the carried row is not used. -/
theorem uTwo_first (j : BitVec 32) (hj : j = 0#32) (I : Ins F) (U U' : FVec F S2x1024 .f32) : uTwo j I U = uTwo j I U' := by
  subst hj; rfl

/-- A load of one row of the convolution weights. -/
theorem load_cwRow {sp : Space} (M : Memref sig .tc sp S3x1024 .f32) (f : M.view.ty.Contents (Elt F)) (r : ℕ) (hr : r < 3)
    (inb : ∀ a, (![r, 0] : Fin 2 → ℕ) a + S1x1024.size a ≤ S3x1024.size a) :
    M.view.readAt (Elt F) (Rect.unit (s := S3x1024) ![r, 0] S1x1024.size inb).toLoadRect f = cwRow (M.view.read (Elt F) f) ⟨r, hr⟩ := by
  funext y
  refine congrArg (M.view.read (Elt F) f) (funext fun a => Fin.ext ?_)
  have h0 : (y 0).val = 0 := by have h := (y 0).isLt; change (y 0).val < 1 at h; omega
  match a with
  | ⟨0, _⟩ => show r + 1 * (y 0).val = r; omega
  | ⟨1, _⟩ => show 0 + 1 * (y 1).val = (y 1).val; omega

/-- A load of the first row after the block. -/
theorem load_firstRow {sp : Space} (M : Memref sig .tc sp S2x8x512 .f32) (f : M.view.ty.Contents (Elt F))
    (inb : ∀ a, (![0, 0, 0] : Fin 3 → ℕ) a + S2x1x512.size a ≤ S2x8x512.size a) :
    M.view.readAt (Elt F) (Rect.unit (s := S2x8x512) ![0, 0, 0] S2x1x512.size inb).toLoadRect f = firstRow (M.view.read (Elt F) f) := by
  funext y
  refine congrArg (M.view.read (Elt F) f) (funext fun a => Fin.ext ?_)
  have h1 : (y 1).val = 0 := by have h := (y 1).isLt; change (y 1).val < 1 at h; omega
  match a with
  | ⟨0, _⟩ => show 0 + 1 * (y 0).val = (y 0).val; omega
  | ⟨1, _⟩ => show 0 + 1 * (y 1).val = 0; omega
  | ⟨2, _⟩ => show 0 + 1 * (y 2).val = (y 2).val; omega

/-- A load of one image's carried state. -/
theorem load_plane {sp : Space} (M : Memref sig .tc sp S2x16x1024 .f32) (f : M.view.ty.Contents (Elt F)) (g : ℕ) (hg : g < 2)
    (inb : ∀ a, (![g, 0, 0] : Fin 3 → ℕ) a + S1x16x1024.size a ≤ S2x16x1024.size a) :
    M.view.readAt (Elt F) (Rect.unit (s := S2x16x1024) ![g, 0, 0] S1x16x1024.size inb).toLoadRect f = plane (M.view.read (Elt F) f) ⟨g, hg⟩ := by
  funext y
  refine congrArg (M.view.read (Elt F) f) (funext fun a => Fin.ext ?_)
  have h0 : (y 0).val = 0 := by have h := (y 0).isLt; change (y 0).val < 1 at h; omega
  match a with
  | ⟨0, _⟩ => show g + 1 * (y 0).val = g; omega
  | ⟨1, _⟩ => show 0 + 1 * (y 1).val = (y 1).val; omega
  | ⟨2, _⟩ => show 0 + 1 * (y 2).val = (y 2).val; omega

/-- A load of one image's state after a store of both. -/
theorem cover_plane {sp : Space} (M : Memref sig .tc sp S2x16x1024 .f32) (w : FVec F S2x16x1024 .f32) (g : ℕ) (hg : g < 2)
    (inb0 : ∀ a, (![0, 0, 0] : Fin 3 → ℕ) a + S2x16x1024.size a ≤ S2x16x1024.size a)
    (inb : ∀ a, (![g, 0, 0] : Fin 3 → ℕ) a + S1x16x1024.size a ≤ S2x16x1024.size a) :
    M.view.readCov (Val := Elt F) [⟨Rect.unit (s := S2x16x1024) ![0, 0, 0] S2x16x1024.size inb0, w⟩] (Rect.unit (s := S2x16x1024) ![g, 0, 0] S1x16x1024.size inb).toLoadRect = plane w ⟨g, hg⟩ := by
  refine (load_plane M _ g hg inb).trans ?_
  rw [View.read_writes_full]

/-- What two stores, of the first image's state and then of the second's, leave. -/
theorem read_planes {sp : Space} (M : Memref sig .tc sp S2x16x1024 .f32) (f : M.view.ty.Contents (Elt F)) (p q : FVec F S1x16x1024 .f32)
    (L : List (View.Piece (Elt F) S2x16x1024 .f32))
    (inb0 : ∀ a, (![0, 0, 0] : Fin 3 → ℕ) a + S1x16x1024.size a ≤ S2x16x1024.size a)
    (inb1 : ∀ a, (![1, 0, 0] : Fin 3 → ℕ) a + S1x16x1024.size a ≤ S2x16x1024.size a) :
    M.view.read (Elt F) (M.view.writes (Elt F) f (⟨Rect.unit (s := S2x16x1024) ![1, 0, 0] S1x16x1024.size inb1, q⟩ ::
      ⟨Rect.unit (s := S2x16x1024) ![0, 0, 0] S1x16x1024.size inb0, p⟩ :: L))
      = fun y => if (y 0).val = 0 then p (ix3 0 (y 1) (y 2)) else q (ix3 0 (y 1) (y 2)) := by
  rw [View.read_writes_cons_put _ _ _ _ _ rfl, View.read_writes_cons_put _ _ _ _ _ rfl]
  funext y
  have h0 := (y 0).isLt
  have h1 := (y 1).isLt
  have h2 := (y 2).isLt
  change (y 0).val < 2 at h0
  change (y 1).val < 16 at h1
  change (y 2).val < 1024 at h2
  unfold VecWindow.put
  by_cases h : (y 0).val = 0
  · rw [if_pos h, dif_neg (fun H => by have := (H 0).1; change 1 ≤ (y 0).val at this; omega), dif_pos (fun a => by
      match a with
      | ⟨0, _⟩ => show 0 ≤ (y 0).val ∧ (y 0).val < 0 + 1; omega
      | ⟨1, _⟩ => show 0 ≤ (y 1).val ∧ (y 1).val < 0 + 16; omega
      | ⟨2, _⟩ => show 0 ≤ (y 2).val ∧ (y 2).val < 0 + 1024; omega)]
    refine congrArg p (funext fun a => Fin.ext ?_)
    match a with
    | ⟨0, _⟩ => show (y 0).val - 0 = 0; omega
    | ⟨1, _⟩ => show (y 1).val - 0 = (y 1).val; omega
    | ⟨2, _⟩ => show (y 2).val - 0 = (y 2).val; omega
  · rw [if_neg h, dif_pos (fun a => by
      match a with
      | ⟨0, _⟩ => show 1 ≤ (y 0).val ∧ (y 0).val < 1 + 1; omega
      | ⟨1, _⟩ => show 0 ≤ (y 1).val ∧ (y 1).val < 0 + 16; omega
      | ⟨2, _⟩ => show 0 ≤ (y 2).val ∧ (y 2).val < 0 + 1024; omega)]
    refine congrArg q (funext fun a => Fin.ext ?_)
    match a with
    | ⟨0, _⟩ => show (y 0).val - 1 = 0; omega
    | ⟨1, _⟩ => show (y 1).val - 0 = (y 1).val; omega
    | ⟨2, _⟩ => show (y 2).val - 0 = (y 2).val; omega

variable (c : Dev nD) (i : grid0.Coords)
variable (arg2 : Memref sig .tc .vmem S2x512x512 .f32) (harg2 : arg2.IsWhole)
variable (arg3 : Memref sig .tc .vmem S2x8x512 .f32) (harg3 : arg3.IsWhole)
variable (arg4 : Memref sig .tc .vmem S512x1024 .bf16) (harg4 : arg4.IsWhole)
variable (arg5 : Memref sig .tc .vmem S512x1024 .bf16) (harg5 : arg5.IsWhole)
variable (arg6 : Memref sig .tc .vmem S1x1024 .f32) (harg6 : arg6.IsWhole)
variable (arg7 : Memref sig .tc .vmem S1x1024 .f32) (harg7 : arg7.IsWhole)
variable (arg8 : Memref sig .tc .vmem S3x1024 .f32) (harg8 : arg8.IsWhole)
variable (arg9 : Memref sig .tc .vmem S1x1024 .f32) (harg9 : arg9.IsWhole)
variable (arg10 : Memref sig .tc .vmem S32x1024 .bf16) (harg10 : arg10.IsWhole)
variable (arg11 : Memref sig .tc .vmem S16x1024 .bf16) (harg11 : arg11.IsWhole)
variable (arg12 : Memref sig .tc .vmem S16x1024 .bf16) (harg12 : arg12.IsWhole)
variable (arg13 : Memref sig .tc .vmem S32x1024 .bf16) (harg13 : arg13.IsWhole)
variable (arg14 : Memref sig .tc .vmem S1x1024 .f32) (harg14 : arg14.IsWhole)
variable (arg15 : Memref sig .tc .vmem S16x1024 .f32) (harg15 : arg15.IsWhole)
variable (arg16 : Memref sig .tc .vmem S1x1024 .f32) (harg16 : arg16.IsWhole)
variable (arg17 : Memref sig .tc .vmem S1024x512 .bf16) (harg17 : arg17.IsWhole)
variable (arg18 : Memref sig .tc .vmem S1x512 .f32) (harg18 : arg18.IsWhole)
variable (arg19 : Memref sig .tc .vmem S2x512x512 .f32) (harg19 : arg19.IsWhole)
variable (arg20 : Memref sig .tc .vmem S1024x1024 .f32) (harg20 : arg20.IsWhole)
variable (arg21 : Memref sig .tc .vmem S2x64x8x1024 .f32) (harg21 : arg21.IsWhole)
variable (arg22 : Memref sig .tc .vmem S2x64x8x1024 .f32) (harg22 : arg22.IsWhole)
variable (arg23 : Memref sig .tc .vmem S2x64x8x16 .f32) (harg23 : arg23.IsWhole)
variable (arg24 : Memref sig .tc .vmem S2x64x8x16 .f32) (harg24 : arg24.IsWhole)
variable (arg25 : Memref sig .tc .vmem S2x64x8x1024 .f32) (harg25 : arg25.IsWhole)
variable (arg26 : Memref sig .tc .vmem S2x16x1024 .f32) (harg26 : arg26.IsWhole)
variable (arg27 : Memref sig .tc .vmem S2x1024 .f32) (harg27 : arg27.IsWhole)
variable (f2 : Bf (F := F) c arg2)
variable (f3 : Bf (F := F) c arg3)
variable (f4 : Bf (F := F) c arg4)
variable (f5 : Bf (F := F) c arg5)
variable (f6 : Bf (F := F) c arg6)
variable (f7 : Bf (F := F) c arg7)
variable (f8 : Bf (F := F) c arg8)
variable (f9 : Bf (F := F) c arg9)
variable (f10 : Bf (F := F) c arg10)
variable (f11 : Bf (F := F) c arg11)
variable (f12 : Bf (F := F) c arg12)
variable (f13 : Bf (F := F) c arg13)
variable (f14 : Bf (F := F) c arg14)
variable (f15 : Bf (F := F) c arg15)
variable (f16 : Bf (F := F) c arg16)
variable (f17 : Bf (F := F) c arg17)
variable (f18 : Bf (F := F) c arg18)
variable (f19 : Bf (F := F) c arg19)
variable (f20 : Bf (F := F) c arg20)
variable (f21 : Bf (F := F) c arg21)
variable (f22 : Bf (F := F) c arg22)
variable (f23 : Bf (F := F) c arg23)
variable (f24 : Bf (F := F) c arg24)
variable (f25 : Bf (F := F) c arg25)
variable (f26 : Bf (F := F) c arg26)
variable (f27 : Bf (F := F) c arg27)

/-- What the body loads from the input windows. -/
abbrev rawIns : Ins F := ⟨(arg2.view.readAt (Elt F) (Rect.unit (s := S2x512x512) ![0, 0, 0] S2x512x512.size inb_S2x512x512_S2x512x512_0_0_0).toLoadRect f2),
    (arg3.view.readAt (Elt F) (Rect.unit (s := S2x8x512) ![0, 0, 0] S2x1x512.size inb_S2x8x512_S2x1x512_0_0_0).toLoadRect f3),
    (arg4.view.readAt (Elt F) (Rect.unit (s := S512x1024) ![0, 0] S512x1024.size inb_S512x1024_S512x1024_0_0).toLoadRect f4),
    (arg5.view.readAt (Elt F) (Rect.unit (s := S512x1024) ![0, 0] S512x1024.size inb_S512x1024_S512x1024_0_0).toLoadRect f5),
    (arg6.view.readAt (Elt F) (Rect.unit (s := S1x1024) ![0, 0] S1x1024.size inb_S1x1024_S1x1024_0_0).toLoadRect f6),
    (arg7.view.readAt (Elt F) (Rect.unit (s := S1x1024) ![0, 0] S1x1024.size inb_S1x1024_S1x1024_0_0).toLoadRect f7),
    (arg8.view.readAt (Elt F) (Rect.unit (s := S3x1024) ![0, 0] S1x1024.size inb_S3x1024_S1x1024_0_0).toLoadRect f8),
    (arg8.view.readAt (Elt F) (Rect.unit (s := S3x1024) ![1, 0] S1x1024.size inb_S3x1024_S1x1024_1_0).toLoadRect f8),
    (arg8.view.readAt (Elt F) (Rect.unit (s := S3x1024) ![2, 0] S1x1024.size inb_S3x1024_S1x1024_2_0).toLoadRect f8),
    (arg9.view.readAt (Elt F) (Rect.unit (s := S1x1024) ![0, 0] S1x1024.size inb_S1x1024_S1x1024_0_0).toLoadRect f9),
    (arg10.view.readAt (Elt F) (Rect.unit (s := S32x1024) ![0, 0] S32x1024.size inb_S32x1024_S32x1024_0_0).toLoadRect f10),
    (arg11.view.readAt (Elt F) (Rect.unit (s := S16x1024) ![0, 0] S16x1024.size inb_S16x1024_S16x1024_0_0).toLoadRect f11),
    (arg12.view.readAt (Elt F) (Rect.unit (s := S16x1024) ![0, 0] S16x1024.size inb_S16x1024_S16x1024_0_0).toLoadRect f12),
    (arg13.view.readAt (Elt F) (Rect.unit (s := S32x1024) ![0, 0] S32x1024.size inb_S32x1024_S32x1024_0_0).toLoadRect f13),
    (arg14.view.readAt (Elt F) (Rect.unit (s := S1x1024) ![0, 0] S1x1024.size inb_S1x1024_S1x1024_0_0).toLoadRect f14),
    (arg15.view.readAt (Elt F) (Rect.unit (s := S16x1024) ![0, 0] S16x1024.size inb_S16x1024_S16x1024_0_0).toLoadRect f15),
    (arg16.view.readAt (Elt F) (Rect.unit (s := S1x1024) ![0, 0] S1x1024.size inb_S1x1024_S1x1024_0_0).toLoadRect f16),
    (arg17.view.readAt (Elt F) (Rect.unit (s := S1024x512) ![0, 0] S1024x512.size inb_S1024x512_S1024x512_0_0).toLoadRect f17),
    (arg18.view.readAt (Elt F) (Rect.unit (s := S1x512) ![0, 0] S1x512.size inb_S1x512_S1x512_0_0).toLoadRect f18)⟩

/-- What the body loads from the input windows, as parts of what the windows' buffers hold. -/
abbrev insOf : Ins F := ⟨arg2.view.read (Elt F) f2, firstRow (arg3.view.read (Elt F) f3), arg4.view.read (Elt F) f4, arg5.view.read (Elt F) f5, arg6.view.read (Elt F) f6, arg7.view.read (Elt F) f7, cwRow (arg8.view.read (Elt F) f8) 0, cwRow (arg8.view.read (Elt F) f8) 1, cwRow (arg8.view.read (Elt F) f8) 2, arg9.view.read (Elt F) f9, arg10.view.read (Elt F) f10, arg11.view.read (Elt F) f11, arg12.view.read (Elt F) f12, arg13.view.read (Elt F) f13, arg14.view.read (Elt F) f14, arg15.view.read (Elt F) f15, arg16.view.read (Elt F) f16, arg17.view.read (Elt F) f17, arg18.view.read (Elt F) f18⟩

/-- The two are the same. -/
theorem rawIns_eq : rawIns c arg2 arg3 arg4 arg5 arg6 arg7 arg8 arg9 arg10 arg11 arg12 arg13 arg14 arg15 arg16 arg17 arg18 f2 f3 f4 f5 f6 f7 f8 f9 f10 f11 f12 f13 f14 f15 f16 f17 f18 = insOf c arg2 arg3 arg4 arg5 arg6 arg7 arg8 arg9 arg10 arg11 arg12 arg13 arg14 arg15 arg16 arg17 arg18 f2 f3 f4 f5 f6 f7 f8 f9 f10 f11 f12 f13 f14 f15 f16 f17 f18 := by
  apply Ins.ext
  · exact View.readAt_full arg2.view f2 _
  · exact load_firstRow arg3 f3 _
  · exact View.readAt_full arg4.view f4 _
  · exact View.readAt_full arg5.view f5 _
  · exact View.readAt_full arg6.view f6 _
  · exact View.readAt_full arg7.view f7 _
  · exact load_cwRow arg8 f8 0 (by decide) _
  · exact load_cwRow arg8 f8 1 (by decide) _
  · exact load_cwRow arg8 f8 2 (by decide) _
  · exact View.readAt_full arg9.view f9 _
  · exact View.readAt_full arg10.view f10 _
  · exact View.readAt_full arg11.view f11 _
  · exact View.readAt_full arg12.view f12 _
  · exact View.readAt_full arg13.view f13 _
  · exact View.readAt_full arg14.view f14 _
  · exact View.readAt_full arg15.view f15 _
  · exact View.readAt_full arg16.view f16 _
  · exact View.readAt_full arg17.view f17 _
  · exact View.readAt_full arg18.view f18 _

/-- Both images' states as loaded when both were just set to `w`. -/
abbrev rawZero (w : FVec F S2x16x1024 .f32) : FVec F S1x16x1024 .f32 × FVec F S1x16x1024 .f32 :=
  (arg26.view.readCov (Val := Elt F) [⟨(Rect.unit (s := S2x16x1024) ![0, 0, 0] S2x16x1024.size inb_S2x16x1024_S2x16x1024_0_0_0), w⟩] (Rect.unit (s := S2x16x1024) ![0, 0, 0] S1x16x1024.size inb_S2x16x1024_S1x16x1024_0_0_0).toLoadRect, arg26.view.readCov (Val := Elt F) [⟨(Rect.unit (s := S2x16x1024) ![0, 0, 0] S2x16x1024.size inb_S2x16x1024_S2x16x1024_0_0_0), w⟩] (Rect.unit (s := S2x16x1024) ![1, 0, 0] S1x16x1024.size inb_S2x16x1024_S1x16x1024_1_0_0).toLoadRect)

/-- Both images' states as loaded from what the memory held. -/
abbrev rawHeld : FVec F S1x16x1024 .f32 × FVec F S1x16x1024 .f32 :=
  ((arg26.view.readAt (Elt F) (Rect.unit (s := S2x16x1024) ![0, 0, 0] S1x16x1024.size inb_S2x16x1024_S1x16x1024_0_0_0).toLoadRect f26), (arg26.view.readAt (Elt F) (Rect.unit (s := S2x16x1024) ![1, 0, 0] S1x16x1024.size inb_S2x16x1024_S1x16x1024_1_0_0).toLoadRect f26))

variable (j : BitVec 32) (I : Ins F) (U : FVec F S2x1024 .f32) (pq : FVec F S1x16x1024 .f32 × FVec F S1x16x1024 .f32)

/-- The loop's state after its trips, from what the memories hold. -/
abbrev rawSt := st_k0_t1 (F := F) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (k0_pay81 I.al) (k0_pay83 pq.1)
    (arg21.view.writes (Elt F) arg21.view.junk [⟨(Rect.unit (s := S2x64x8x1024) ![0, 0, 0, 0] S2x64x8x1024.size inb_S2x64x8x1024_S2x64x8x1024_0_0_0_0), scanU j I U⟩])
    (arg22.view.writes (Elt F) arg22.view.junk [⟨(Rect.unit (s := S2x64x8x1024) ![0, 0, 0, 0] S2x64x8x1024.size inb_S2x64x8x1024_S2x64x8x1024_0_0_0_0), scanD j I U⟩])
    (arg23.view.writes (Elt F) arg23.view.junk [⟨(Rect.unit (s := S2x64x8x16) ![0, 0, 0, 0] S2x64x8x16.size inb_S2x64x8x16_S2x64x8x16_0_0_0_0), scanB j I U⟩])
    (arg24.view.writes (Elt F) arg24.view.junk [⟨(Rect.unit (s := S2x64x8x16) ![0, 0, 0, 0] S2x64x8x16.size inb_S2x64x8x16_S2x64x8x16_0_0_0_0), scanC j I U⟩]) (start pq.1 pq.2) k0_t1_loop.trips

/-- What the run leaves in the output window, as it finds it. -/
theorem rawA_out (hc : firstJ i) : (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).1 =
    arg19.view.writes (Elt F) f19 [⟨(Rect.unit (s := S2x512x512) ![0, 0, 0] S2x512x512.size inb_S2x512x512_S2x512x512_0_0_0), k0_pay1 (k0_pay61 (arg2.view.readAt (Elt F) (Rect.unit (s := S2x512x512) ![0, 0, 0] S2x512x512.size inb_S2x512x512_S2x512x512_0_0_0).toLoadRect f2)) (k0_pay90
      (arg25.view.readAt (Elt F) (Rect.unit (s := S2x64x8x1024) ![0, 0, 0, 0] S2x64x8x1024.size inb_S2x64x8x1024_S2x64x8x1024_0_0_0_0).toLoadRect (arg25.view.writes (Elt F) f25 (rawSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (BitVec.ofNat 32 (i 1).val) (rawIns c arg2 arg3 arg4 arg5 arg6 arg7 arg8 arg9 arg10 arg11 arg12 arg13 arg14 arg15 arg16 arg17 arg18 f2 f3 f4 f5 f6 f7 f8 f9 f10 f11 f12 f13 f14 f15 f16 f17 f18) (arg27.view.readAt (Elt F) (Rect.unit (s := S2x1024) ![0, 0] S2x1024.size inb_S2x1024_S2x1024_0_0).toLoadRect f27) (rawZero arg26 (k0_pay82 (F := F)))).2))
      (arg16.view.readAt (Elt F) (Rect.unit (s := S1x1024) ![0, 0] S1x1024.size inb_S1x1024_S1x1024_0_0).toLoadRect f16)
      (arg21.view.readCov (Val := Elt F) [⟨(Rect.unit (s := S2x64x8x1024) ![0, 0, 0, 0] S2x64x8x1024.size inb_S2x64x8x1024_S2x64x8x1024_0_0_0_0), (scanU (BitVec.ofNat 32 (i 1).val) (rawIns c arg2 arg3 arg4 arg5 arg6 arg7 arg8 arg9 arg10 arg11 arg12 arg13 arg14 arg15 arg16 arg17 arg18 f2 f3 f4 f5 f6 f7 f8 f9 f10 f11 f12 f13 f14 f15 f16 f17 f18) (arg27.view.readAt (Elt F) (Rect.unit (s := S2x1024) ![0, 0] S2x1024.size inb_S2x1024_S2x1024_0_0).toLoadRect f27))⟩] (Rect.unit (s := S2x64x8x1024) ![0, 0, 0, 0] S2x64x8x1024.size inb_S2x64x8x1024_S2x64x8x1024_0_0_0_0).toLoadRect)
      (arg20.view.readCov (Val := Elt F) [⟨(Rect.unit (s := S1024x1024) ![0, 0] S1024x1024.size inb_S1024x1024_S1024x1024_0_0), k0_pay64 (arg2.view.readAt (Elt F) (Rect.unit (s := S2x512x512) ![0, 0, 0] S2x512x512.size inb_S2x512x512_S2x512x512_0_0_0).toLoadRect f2) (arg5.view.readAt (Elt F) (Rect.unit (s := S512x1024) ![0, 0] S512x1024.size inb_S512x1024_S512x1024_0_0).toLoadRect f5) (arg7.view.readAt (Elt F) (Rect.unit (s := S1x1024) ![0, 0] S1x1024.size inb_S1x1024_S1x1024_0_0).toLoadRect f7)⟩] (Rect.unit (s := S1024x1024) ![0, 0] S1024x1024.size inb_S1024x1024_S1024x1024_0_0).toLoadRect)
      (arg17.view.readAt (Elt F) (Rect.unit (s := S1024x512) ![0, 0] S1024x512.size inb_S1024x512_S1024x512_0_0).toLoadRect f17) (arg18.view.readAt (Elt F) (Rect.unit (s := S1x512) ![0, 0] S1x512.size inb_S1x512_S1x512_0_0).toLoadRect f18))⟩] := by
  unfold runA
  dsimp only
  rfl

/-- What the run leaves of the carried states, as it finds it. -/
theorem rawA_H (hc : firstJ i) : (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).2.1 =
    arg26.view.writes (Elt F) arg26.view.junk (⟨(Rect.unit (s := S2x16x1024) ![1, 0, 0] S1x16x1024.size inb_S2x16x1024_S1x16x1024_1_0_0), k0_pay89 (rawSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (BitVec.ofNat 32 (i 1).val) (rawIns c arg2 arg3 arg4 arg5 arg6 arg7 arg8 arg9 arg10 arg11 arg12 arg13 arg14 arg15 arg16 arg17 arg18 f2 f3 f4 f5 f6 f7 f8 f9 f10 f11 f12 f13 f14 f15 f16 f17 f18) (arg27.view.readAt (Elt F) (Rect.unit (s := S2x1024) ![0, 0] S2x1024.size inb_S2x1024_S2x1024_0_0).toLoadRect f27) (rawZero arg26 (k0_pay82 (F := F)))).1.2⟩ ::
      ⟨(Rect.unit (s := S2x16x1024) ![0, 0, 0] S1x16x1024.size inb_S2x16x1024_S1x16x1024_0_0_0), k0_pay88 (rawSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (BitVec.ofNat 32 (i 1).val) (rawIns c arg2 arg3 arg4 arg5 arg6 arg7 arg8 arg9 arg10 arg11 arg12 arg13 arg14 arg15 arg16 arg17 arg18 f2 f3 f4 f5 f6 f7 f8 f9 f10 f11 f12 f13 f14 f15 f16 f17 f18) (arg27.view.readAt (Elt F) (Rect.unit (s := S2x1024) ![0, 0] S2x1024.size inb_S2x1024_S2x1024_0_0).toLoadRect f27) (rawZero arg26 (k0_pay82 (F := F)))).1.1⟩ :: [⟨(Rect.unit (s := S2x16x1024) ![0, 0, 0] S2x16x1024.size inb_S2x16x1024_S2x16x1024_0_0_0), k0_pay82 (F := F)⟩]) := by
  unfold runA
  dsimp only
  rfl

/-- What the run leaves of the carried rows, as it finds it. -/
theorem rawA_U (hc : firstJ i) : arg27.view.read (Elt F) (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).2.2.1 = bodyU (rawIns c arg2 arg3 arg4 arg5 arg6 arg7 arg8 arg9 arg10 arg11 arg12 arg13 arg14 arg15 arg16 arg17 arg18 f2 f3 f4 f5 f6 f7 f8 f9 f10 f11 f12 f13 f14 f15 f16 f17 f18) := by
  unfold runA
  dsimp only
  sl_unfold_words
  simp only [View.read_writes_full (s := S2x1024)]
  rfl

/-- The states loaded are those of the carried pair. -/
theorem rawA_pq : (rawZero arg26 (k0_pay82 (F := F))) = (plane (k0_pay82 (F := F)) 0, plane (k0_pay82 (F := F)) 1) :=
  Prod.ext (cover_plane arg26 (k0_pay82 (F := F)) 0 (by decide) _ _) (cover_plane arg26 (k0_pay82 (F := F)) 1 (by decide) _ _)

/-- In the first column the run leaves the body's output in the output window. -/
theorem readA_out (hc : firstJ i) :
    arg19.view.read (Elt F) (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).1 = bodyOut (BitVec.ofNat 32 (i 1).val) (insOf c arg2 arg3 arg4 arg5 arg6 arg7 arg8 arg9 arg10 arg11 arg12 arg13 arg14 arg15 arg16 arg17 arg18 f2 f3 f4 f5 f6 f7 f8 f9 f10 f11 f12 f13 f14 f15 f16 f17 f18) (k0_pay82 (F := F)) (arg27.view.read (Elt F) f27) := by
  rw [rawA_out, View.read_writes_full, rawA_pq, rawIns_eq, View.readAt_full arg25.view, View.readAt_full arg2.view, View.readAt_full arg5.view, View.readAt_full arg7.view,
    View.readAt_full arg16.view, View.readAt_full arg17.view, View.readAt_full arg18.view, View.readAt_full arg27.view, View.readCov_full, View.readCov_full]
  unfold rawSt
  rw [read_scan, View.read_writes_full, View.read_writes_full, View.read_writes_full, View.read_writes_full]
  rfl

/-- In the first column the run leaves the body's states. -/
theorem readA_H (hc : firstJ i) :
    arg26.view.read (Elt F) (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).2.1 = bodyH (BitVec.ofNat 32 (i 1).val) (insOf c arg2 arg3 arg4 arg5 arg6 arg7 arg8 arg9 arg10 arg11 arg12 arg13 arg14 arg15 arg16 arg17 arg18 f2 f3 f4 f5 f6 f7 f8 f9 f10 f11 f12 f13 f14 f15 f16 f17 f18) (k0_pay82 (F := F)) (arg27.view.read (Elt F) f27) := by
  rw [rawA_H, read_planes, rawA_pq, rawIns_eq, View.readAt_full arg27.view]
  unfold rawSt
  rw [st_fst (hk := Nat.le_of_eq trips_64), View.read_writes_full, View.read_writes_full, View.read_writes_full, View.read_writes_full]
  rw [trips_64]
  rfl

/-- In the first column the run leaves the last rows of the projection. -/
theorem readA_U (hc : firstJ i) :
    arg27.view.read (Elt F) (runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).2.2.1 = bodyU (insOf c arg2 arg3 arg4 arg5 arg6 arg7 arg8 arg9 arg10 arg11 arg12 arg13 arg14 arg15 arg16 arg17 arg18 f2 f3 f4 f5 f6 f7 f8 f9 f10 f11 f12 f13 f14 f15 f16 f17 f18) := by
  rw [rawA_U, rawIns_eq]

/-- What the run leaves in the output window, as it finds it. -/
theorem rawB_out (hc : ¬ firstJ i) : (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).1 =
    arg19.view.writes (Elt F) f19 [⟨(Rect.unit (s := S2x512x512) ![0, 0, 0] S2x512x512.size inb_S2x512x512_S2x512x512_0_0_0), k0_pay1 (k0_pay61 (arg2.view.readAt (Elt F) (Rect.unit (s := S2x512x512) ![0, 0, 0] S2x512x512.size inb_S2x512x512_S2x512x512_0_0_0).toLoadRect f2)) (k0_pay90
      (arg25.view.readAt (Elt F) (Rect.unit (s := S2x64x8x1024) ![0, 0, 0, 0] S2x64x8x1024.size inb_S2x64x8x1024_S2x64x8x1024_0_0_0_0).toLoadRect (arg25.view.writes (Elt F) f25 (rawSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (BitVec.ofNat 32 (i 1).val) (rawIns c arg2 arg3 arg4 arg5 arg6 arg7 arg8 arg9 arg10 arg11 arg12 arg13 arg14 arg15 arg16 arg17 arg18 f2 f3 f4 f5 f6 f7 f8 f9 f10 f11 f12 f13 f14 f15 f16 f17 f18) (arg27.view.readAt (Elt F) (Rect.unit (s := S2x1024) ![0, 0] S2x1024.size inb_S2x1024_S2x1024_0_0).toLoadRect f27) (rawHeld c arg26 f26)).2))
      (arg16.view.readAt (Elt F) (Rect.unit (s := S1x1024) ![0, 0] S1x1024.size inb_S1x1024_S1x1024_0_0).toLoadRect f16)
      (arg21.view.readCov (Val := Elt F) [⟨(Rect.unit (s := S2x64x8x1024) ![0, 0, 0, 0] S2x64x8x1024.size inb_S2x64x8x1024_S2x64x8x1024_0_0_0_0), (scanU (BitVec.ofNat 32 (i 1).val) (rawIns c arg2 arg3 arg4 arg5 arg6 arg7 arg8 arg9 arg10 arg11 arg12 arg13 arg14 arg15 arg16 arg17 arg18 f2 f3 f4 f5 f6 f7 f8 f9 f10 f11 f12 f13 f14 f15 f16 f17 f18) (arg27.view.readAt (Elt F) (Rect.unit (s := S2x1024) ![0, 0] S2x1024.size inb_S2x1024_S2x1024_0_0).toLoadRect f27))⟩] (Rect.unit (s := S2x64x8x1024) ![0, 0, 0, 0] S2x64x8x1024.size inb_S2x64x8x1024_S2x64x8x1024_0_0_0_0).toLoadRect)
      (arg20.view.readCov (Val := Elt F) [⟨(Rect.unit (s := S1024x1024) ![0, 0] S1024x1024.size inb_S1024x1024_S1024x1024_0_0), k0_pay64 (arg2.view.readAt (Elt F) (Rect.unit (s := S2x512x512) ![0, 0, 0] S2x512x512.size inb_S2x512x512_S2x512x512_0_0_0).toLoadRect f2) (arg5.view.readAt (Elt F) (Rect.unit (s := S512x1024) ![0, 0] S512x1024.size inb_S512x1024_S512x1024_0_0).toLoadRect f5) (arg7.view.readAt (Elt F) (Rect.unit (s := S1x1024) ![0, 0] S1x1024.size inb_S1x1024_S1x1024_0_0).toLoadRect f7)⟩] (Rect.unit (s := S1024x1024) ![0, 0] S1024x1024.size inb_S1024x1024_S1024x1024_0_0).toLoadRect)
      (arg17.view.readAt (Elt F) (Rect.unit (s := S1024x512) ![0, 0] S1024x512.size inb_S1024x512_S1024x512_0_0).toLoadRect f17) (arg18.view.readAt (Elt F) (Rect.unit (s := S1x512) ![0, 0] S1x512.size inb_S1x512_S1x512_0_0).toLoadRect f18))⟩] := by
  unfold runB
  dsimp only
  rfl

/-- What the run leaves of the carried states, as it finds it. -/
theorem rawB_H (hc : ¬ firstJ i) : (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).2.1 =
    arg26.view.writes (Elt F) f26 (⟨(Rect.unit (s := S2x16x1024) ![1, 0, 0] S1x16x1024.size inb_S2x16x1024_S1x16x1024_1_0_0), k0_pay89 (rawSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (BitVec.ofNat 32 (i 1).val) (rawIns c arg2 arg3 arg4 arg5 arg6 arg7 arg8 arg9 arg10 arg11 arg12 arg13 arg14 arg15 arg16 arg17 arg18 f2 f3 f4 f5 f6 f7 f8 f9 f10 f11 f12 f13 f14 f15 f16 f17 f18) (arg27.view.readAt (Elt F) (Rect.unit (s := S2x1024) ![0, 0] S2x1024.size inb_S2x1024_S2x1024_0_0).toLoadRect f27) (rawHeld c arg26 f26)).1.2⟩ ::
      ⟨(Rect.unit (s := S2x16x1024) ![0, 0, 0] S1x16x1024.size inb_S2x16x1024_S1x16x1024_0_0_0), k0_pay88 (rawSt c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (BitVec.ofNat 32 (i 1).val) (rawIns c arg2 arg3 arg4 arg5 arg6 arg7 arg8 arg9 arg10 arg11 arg12 arg13 arg14 arg15 arg16 arg17 arg18 f2 f3 f4 f5 f6 f7 f8 f9 f10 f11 f12 f13 f14 f15 f16 f17 f18) (arg27.view.readAt (Elt F) (Rect.unit (s := S2x1024) ![0, 0] S2x1024.size inb_S2x1024_S2x1024_0_0).toLoadRect f27) (rawHeld c arg26 f26)).1.1⟩ :: []) := by
  unfold runB
  dsimp only
  rfl

/-- What the run leaves of the carried rows, as it finds it. -/
theorem rawB_U (hc : ¬ firstJ i) : arg27.view.read (Elt F) (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).2.2.1 = bodyU (rawIns c arg2 arg3 arg4 arg5 arg6 arg7 arg8 arg9 arg10 arg11 arg12 arg13 arg14 arg15 arg16 arg17 arg18 f2 f3 f4 f5 f6 f7 f8 f9 f10 f11 f12 f13 f14 f15 f16 f17 f18) := by
  unfold runB
  dsimp only
  sl_unfold_words
  simp only [View.read_writes_full (s := S2x1024)]
  rfl

/-- The states loaded are those of the carried pair. -/
theorem rawB_pq : (rawHeld c arg26 f26) = (plane (arg26.view.read (Elt F) f26) 0, plane (arg26.view.read (Elt F) f26) 1) :=
  Prod.ext (load_plane arg26 f26 0 (by decide) _) (load_plane arg26 f26 1 (by decide) _)

/-- In a later column the run leaves the body's output in the output window. -/
theorem readB_out (hc : ¬ firstJ i) :
    arg19.view.read (Elt F) (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).1 = bodyOut (BitVec.ofNat 32 (i 1).val) (insOf c arg2 arg3 arg4 arg5 arg6 arg7 arg8 arg9 arg10 arg11 arg12 arg13 arg14 arg15 arg16 arg17 arg18 f2 f3 f4 f5 f6 f7 f8 f9 f10 f11 f12 f13 f14 f15 f16 f17 f18) (arg26.view.read (Elt F) f26) (arg27.view.read (Elt F) f27) := by
  rw [rawB_out, View.read_writes_full, rawB_pq, rawIns_eq, View.readAt_full arg25.view, View.readAt_full arg2.view, View.readAt_full arg5.view, View.readAt_full arg7.view,
    View.readAt_full arg16.view, View.readAt_full arg17.view, View.readAt_full arg18.view, View.readAt_full arg27.view, View.readCov_full, View.readCov_full]
  unfold rawSt
  rw [read_scan, View.read_writes_full, View.read_writes_full, View.read_writes_full, View.read_writes_full]
  rfl

/-- In a later column the run leaves the body's states. -/
theorem readB_H (hc : ¬ firstJ i) :
    arg26.view.read (Elt F) (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).2.1 = bodyH (BitVec.ofNat 32 (i 1).val) (insOf c arg2 arg3 arg4 arg5 arg6 arg7 arg8 arg9 arg10 arg11 arg12 arg13 arg14 arg15 arg16 arg17 arg18 f2 f3 f4 f5 f6 f7 f8 f9 f10 f11 f12 f13 f14 f15 f16 f17 f18) (arg26.view.read (Elt F) f26) (arg27.view.read (Elt F) f27) := by
  rw [rawB_H, read_planes, rawB_pq, rawIns_eq, View.readAt_full arg27.view]
  unfold rawSt
  rw [st_fst (hk := Nat.le_of_eq trips_64), View.read_writes_full, View.read_writes_full, View.read_writes_full, View.read_writes_full]
  rw [trips_64]
  rfl

/-- In a later column the run leaves the last rows of the projection. -/
theorem readB_U (hc : ¬ firstJ i) :
    arg27.view.read (Elt F) (runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).2.2.1 = bodyU (insOf c arg2 arg3 arg4 arg5 arg6 arg7 arg8 arg9 arg10 arg11 arg12 arg13 arg14 arg15 arg16 arg17 arg18 f2 f3 f4 f5 f6 f7 f8 f9 f10 f11 f12 f13 f14 f15 f16 f17 f18) := by
  rw [rawB_U, rawIns_eq]

end Cert.KernelIdeal.Body

end
-- ==== Proof.Sound.lean ====
module

public import proofs.«01_k».proof.Proof.Out
import all proofs.«01_k».proof.Proof.Body

@[expose] public section

set_option maxRecDepth 16384
set_option maxHeartbeats 1000000

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Memref `M` on core `c`, held whole and reading `X`. -/
abbrev ow (c : Dev nD) {sp : Space} {S : Shape} {e : EltTy} (M : Memref sig .tc sp S e) (X : S.Idx → Elt F e) : sProp 𝕄 :=
  owns (c : Thread nD τ) M fullShare X

variable (c : Dev nD) (i : grid0.Coords)
variable (arg2 : Memref sig .tc .vmem S2x512x512 .f32) (harg2 : arg2.IsWhole)
variable (arg3 : Memref sig .tc .vmem S2x8x512 .f32) (harg3 : arg3.IsWhole)
variable (arg4 : Memref sig .tc .vmem S512x1024 .bf16) (harg4 : arg4.IsWhole)
variable (arg5 : Memref sig .tc .vmem S512x1024 .bf16) (harg5 : arg5.IsWhole)
variable (arg6 : Memref sig .tc .vmem S1x1024 .f32) (harg6 : arg6.IsWhole)
variable (arg7 : Memref sig .tc .vmem S1x1024 .f32) (harg7 : arg7.IsWhole)
variable (arg8 : Memref sig .tc .vmem S3x1024 .f32) (harg8 : arg8.IsWhole)
variable (arg9 : Memref sig .tc .vmem S1x1024 .f32) (harg9 : arg9.IsWhole)
variable (arg10 : Memref sig .tc .vmem S32x1024 .bf16) (harg10 : arg10.IsWhole)
variable (arg11 : Memref sig .tc .vmem S16x1024 .bf16) (harg11 : arg11.IsWhole)
variable (arg12 : Memref sig .tc .vmem S16x1024 .bf16) (harg12 : arg12.IsWhole)
variable (arg13 : Memref sig .tc .vmem S32x1024 .bf16) (harg13 : arg13.IsWhole)
variable (arg14 : Memref sig .tc .vmem S1x1024 .f32) (harg14 : arg14.IsWhole)
variable (arg15 : Memref sig .tc .vmem S16x1024 .f32) (harg15 : arg15.IsWhole)
variable (arg16 : Memref sig .tc .vmem S1x1024 .f32) (harg16 : arg16.IsWhole)
variable (arg17 : Memref sig .tc .vmem S1024x512 .bf16) (harg17 : arg17.IsWhole)
variable (arg18 : Memref sig .tc .vmem S1x512 .f32) (harg18 : arg18.IsWhole)
variable (arg19 : Memref sig .tc .vmem S2x512x512 .f32) (harg19 : arg19.IsWhole)
variable (arg20 : Memref sig .tc .vmem S1024x1024 .f32) (harg20 : arg20.IsWhole)
variable (arg21 : Memref sig .tc .vmem S2x64x8x1024 .f32) (harg21 : arg21.IsWhole)
variable (arg22 : Memref sig .tc .vmem S2x64x8x1024 .f32) (harg22 : arg22.IsWhole)
variable (arg23 : Memref sig .tc .vmem S2x64x8x16 .f32) (harg23 : arg23.IsWhole)
variable (arg24 : Memref sig .tc .vmem S2x64x8x16 .f32) (harg24 : arg24.IsWhole)
variable (arg25 : Memref sig .tc .vmem S2x64x8x1024 .f32) (harg25 : arg25.IsWhole)
variable (arg26 : Memref sig .tc .vmem S2x16x1024 .f32) (harg26 : arg26.IsWhole)
variable (arg27 : Memref sig .tc .vmem S2x1024 .f32) (harg27 : arg27.IsWhole)
variable (X2 : FVec F S2x512x512 .f32)
variable (X3 : FVec F S2x8x512 .f32)
variable (X4 : FVec F S512x1024 .bf16)
variable (X5 : FVec F S512x1024 .bf16)
variable (X6 : FVec F S1x1024 .f32)
variable (X7 : FVec F S1x1024 .f32)
variable (X8 : FVec F S3x1024 .f32)
variable (X9 : FVec F S1x1024 .f32)
variable (X10 : FVec F S32x1024 .bf16)
variable (X11 : FVec F S16x1024 .bf16)
variable (X12 : FVec F S16x1024 .bf16)
variable (X13 : FVec F S32x1024 .bf16)
variable (X14 : FVec F S1x1024 .f32)
variable (X15 : FVec F S16x1024 .f32)
variable (X16 : FVec F S1x1024 .f32)
variable (X17 : FVec F S1024x512 .bf16)
variable (X18 : FVec F S1x512 .f32)
variable (X26 : FVec F S2x16x1024 .f32)
variable (X27 : FVec F S2x1024 .f32)

/-- The input windows' contents as one record. -/
abbrev insX : Ins F := ⟨X2, (firstRow X3), X4, X5, X6, X7, (cwRow X8 0), (cwRow X8 1), (cwRow X8 2), X9, X10, X11, X12, X13, X14, X15, X16, X17, X18⟩

/-- In the first column of the grid the body, whatever the carried state, starts from zeros and leaves its output, its states and its carried rows. -/
theorem sound_first (hc : firstJ i) (E : Set ℕ) (K : PUnit → sProp 𝕄) :
    iprop(ow c arg2 X2 ∗ ow c arg3 X3 ∗ ow c arg4 X4 ∗ ow c arg5 X5 ∗ ow c arg6 X6 ∗ ow c arg7 X7 ∗ ow c arg8 X8 ∗ ow c arg9 X9 ∗ ow c arg10 X10 ∗ ow c arg11 X11 ∗ ow c arg12 X12 ∗ ow c arg13 X13 ∗ ow c arg14 X14 ∗ ow c arg15 X15 ∗ ow c arg16 X16 ∗ ow c arg17 X17 ∗ ow c arg18 X18 ∗ (∃ X, ow (F := F) c arg19 X) ∗ (∃ X, ow (F := F) c arg20 X) ∗ (∃ X, ow (F := F) c arg21 X) ∗ (∃ X, ow (F := F) c arg22 X) ∗ (∃ X, ow (F := F) c arg23 X) ∗ (∃ X, ow (F := F) c arg24 X) ∗ (∃ X, ow (F := F) c arg25 X) ∗ ow c arg26 X26 ∗ ow c arg27 X27
        ∗ (iprop(ow c arg2 X2 ∗ ow c arg3 X3 ∗ ow c arg4 X4 ∗ ow c arg5 X5 ∗ ow c arg6 X6 ∗ ow c arg7 X7 ∗ ow c arg8 X8 ∗ ow c arg9 X9 ∗ ow c arg10 X10 ∗ ow c arg11 X11 ∗ ow c arg12 X12 ∗ ow c arg13 X13 ∗ ow c arg14 X14 ∗ ow c arg15 X15 ∗ ow c arg16 X16 ∗ ow c arg17 X17 ∗ ow c arg18 X18 ∗ ow c arg19 (bodyOut (BitVec.ofNat 32 (i 1).val) (insX X2 X3 X4 X5 X6 X7 X8 X9 X10 X11 X12 X13 X14 X15 X16 X17 X18) (k0_pay82 (F := F)) X27) ∗ (∃ X, ow (F := F) c arg20 X) ∗ (∃ X, ow (F := F) c arg21 X) ∗ (∃ X, ow (F := F) c arg22 X) ∗ (∃ X, ow (F := F) c arg23 X) ∗ (∃ X, ow (F := F) c arg24 X) ∗ (∃ X, ow (F := F) c arg25 X) ∗ ow c arg26 (bodyH (BitVec.ofNat 32 (i 1).val) (insX X2 X3 X4 X5 X6 X7 X8 X9 X10 X11 X12 X13 X14 X15 X16 X17 X18) (k0_pay82 (F := F)) X27) ∗ ow c arg27 (bodyU (insX X2 X3 X4 X5 X6 X7 X8 X9 X10 X11 X12 X13 X14 X15 X16 X17 X18))) -∗ K ⟨⟩))
      ⊢ wp frame (wpE (defs₀ (F := F)) Variants.none c none) E (cc0_vsss_block1d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  unfold ow owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%Y19, %f19, %h19, H19⟩, ⟨%Y20, %f20, %h20, H20⟩, ⟨%Y21, %f21, %h21, H21⟩, ⟨%Y22, %f22, %h22, H22⟩, ⟨%Y23, %f23, %h23, H23⟩, ⟨%Y24, %f24, %h24, H24⟩, ⟨%Y25, %f25, %h25, H25⟩, ⟨%f26, %h26, H26⟩, ⟨%f27, %h27, H27⟩, Hk⟩
  iapply ((runA (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iintro ⟨H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, H26, H27⟩
  iapply Hk
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  isplitl [H15]
  · iexists _; isplitr; swap; · iexact H15
    ipureintro; exact h15
  isplitl [H16]
  · iexists _; isplitr; swap; · iexact H16
    ipureintro; exact h16
  isplitl [H17]
  · iexists _; isplitr; swap; · iexact H17
    ipureintro; exact h17
  isplitl [H18]
  · iexists _; isplitr; swap; · iexact H18
    ipureintro; exact h18
  isplitl [H19]
  · iexists _; isplitr; swap; · iexact H19
    ipureintro; rw [readA_out]; subst h2 h3 h4 h5 h6 h7 h8 h9 h10 h11 h12 h13 h14 h15 h16 h17 h18 h26 h27; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _; isplitr; swap; · iexact H26
    ipureintro; rw [readA_H]; subst h2 h3 h4 h5 h6 h7 h8 h9 h10 h11 h12 h13 h14 h15 h16 h17 h18 h26 h27; rfl
  iexists _; isplitr; swap; · iexact H27
  ipureintro; rw [readA_U]; subst h2 h3 h4 h5 h6 h7 h8 h9 h10 h11 h12 h13 h14 h15 h16 h17 h18 h26 h27; rfl

/-- In a later column the body starts from the carried state. -/
theorem sound_later (hc : ¬ firstJ i) (E : Set ℕ) (K : PUnit → sProp 𝕄) :
    iprop(ow c arg2 X2 ∗ ow c arg3 X3 ∗ ow c arg4 X4 ∗ ow c arg5 X5 ∗ ow c arg6 X6 ∗ ow c arg7 X7 ∗ ow c arg8 X8 ∗ ow c arg9 X9 ∗ ow c arg10 X10 ∗ ow c arg11 X11 ∗ ow c arg12 X12 ∗ ow c arg13 X13 ∗ ow c arg14 X14 ∗ ow c arg15 X15 ∗ ow c arg16 X16 ∗ ow c arg17 X17 ∗ ow c arg18 X18 ∗ (∃ X, ow (F := F) c arg19 X) ∗ (∃ X, ow (F := F) c arg20 X) ∗ (∃ X, ow (F := F) c arg21 X) ∗ (∃ X, ow (F := F) c arg22 X) ∗ (∃ X, ow (F := F) c arg23 X) ∗ (∃ X, ow (F := F) c arg24 X) ∗ (∃ X, ow (F := F) c arg25 X) ∗ ow c arg26 X26 ∗ ow c arg27 X27
        ∗ (iprop(ow c arg2 X2 ∗ ow c arg3 X3 ∗ ow c arg4 X4 ∗ ow c arg5 X5 ∗ ow c arg6 X6 ∗ ow c arg7 X7 ∗ ow c arg8 X8 ∗ ow c arg9 X9 ∗ ow c arg10 X10 ∗ ow c arg11 X11 ∗ ow c arg12 X12 ∗ ow c arg13 X13 ∗ ow c arg14 X14 ∗ ow c arg15 X15 ∗ ow c arg16 X16 ∗ ow c arg17 X17 ∗ ow c arg18 X18 ∗ ow c arg19 (bodyOut (BitVec.ofNat 32 (i 1).val) (insX X2 X3 X4 X5 X6 X7 X8 X9 X10 X11 X12 X13 X14 X15 X16 X17 X18) X26 X27) ∗ (∃ X, ow (F := F) c arg20 X) ∗ (∃ X, ow (F := F) c arg21 X) ∗ (∃ X, ow (F := F) c arg22 X) ∗ (∃ X, ow (F := F) c arg23 X) ∗ (∃ X, ow (F := F) c arg24 X) ∗ (∃ X, ow (F := F) c arg25 X) ∗ ow c arg26 (bodyH (BitVec.ofNat 32 (i 1).val) (insX X2 X3 X4 X5 X6 X7 X8 X9 X10 X11 X12 X13 X14 X15 X16 X17 X18) X26 X27) ∗ ow c arg27 (bodyU (insX X2 X3 X4 X5 X6 X7 X8 X9 X10 X11 X12 X13 X14 X15 X16 X17 X18))) -∗ K ⟨⟩))
      ⊢ wp frame (wpE (defs₀ (F := F)) Variants.none c none) E (cc0_vsss_block1d i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) K := by
  unfold ow owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩, ⟨%f12, %h12, H12⟩, ⟨%f13, %h13, H13⟩, ⟨%f14, %h14, H14⟩, ⟨%f15, %h15, H15⟩, ⟨%f16, %h16, H16⟩, ⟨%f17, %h17, H17⟩, ⟨%f18, %h18, H18⟩, ⟨%Y19, %f19, %h19, H19⟩, ⟨%Y20, %f20, %h20, H20⟩, ⟨%Y21, %f21, %h21, H21⟩, ⟨%Y22, %f22, %h22, H22⟩, ⟨%Y23, %f23, %h23, H23⟩, ⟨%Y24, %f24, %h24, H24⟩, ⟨%Y25, %f25, %h25, H25⟩, ⟨%f26, %h26, H26⟩, ⟨%f27, %h27, H27⟩, Hk⟩
  iapply ((runB (F := F) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 f2 f3 f4 f5 f6 f7 f8 f9 f10 f11 f12 f13 f14 f15 f16 f17 f18 f19 f20 f21 f22 f23 f24 f25 f26 f27 hc).2.2.2 E K)
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iintro ⟨H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, H26, H27⟩
  iapply Hk
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H7]
  · iexists _; isplitr; swap; · iexact H7
    ipureintro; exact h7
  isplitl [H8]
  · iexists _; isplitr; swap; · iexact H8
    ipureintro; exact h8
  isplitl [H9]
  · iexists _; isplitr; swap; · iexact H9
    ipureintro; exact h9
  isplitl [H10]
  · iexists _; isplitr; swap; · iexact H10
    ipureintro; exact h10
  isplitl [H11]
  · iexists _; isplitr; swap; · iexact H11
    ipureintro; exact h11
  isplitl [H12]
  · iexists _; isplitr; swap; · iexact H12
    ipureintro; exact h12
  isplitl [H13]
  · iexists _; isplitr; swap; · iexact H13
    ipureintro; exact h13
  isplitl [H14]
  · iexists _; isplitr; swap; · iexact H14
    ipureintro; exact h14
  isplitl [H15]
  · iexists _; isplitr; swap; · iexact H15
    ipureintro; exact h15
  isplitl [H16]
  · iexists _; isplitr; swap; · iexact H16
    ipureintro; exact h16
  isplitl [H17]
  · iexists _; isplitr; swap; · iexact H17
    ipureintro; exact h17
  isplitl [H18]
  · iexists _; isplitr; swap; · iexact H18
    ipureintro; exact h18
  isplitl [H19]
  · iexists _; isplitr; swap; · iexact H19
    ipureintro; rw [readB_out]; subst h2 h3 h4 h5 h6 h7 h8 h9 h10 h11 h12 h13 h14 h15 h16 h17 h18 h26 h27; rfl
  isplitl [H20]
  · iexists _, _; isplitr; swap; · iexact H20
    ipureintro; rfl
  isplitl [H21]
  · iexists _, _; isplitr; swap; · iexact H21
    ipureintro; rfl
  isplitl [H22]
  · iexists _, _; isplitr; swap; · iexact H22
    ipureintro; rfl
  isplitl [H23]
  · iexists _, _; isplitr; swap; · iexact H23
    ipureintro; rfl
  isplitl [H24]
  · iexists _, _; isplitr; swap; · iexact H24
    ipureintro; rfl
  isplitl [H25]
  · iexists _, _; isplitr; swap; · iexact H25
    ipureintro; rfl
  isplitl [H26]
  · iexists _; isplitr; swap; · iexact H26
    ipureintro; rw [readB_H]; subst h2 h3 h4 h5 h6 h7 h8 h9 h10 h11 h12 h13 h14 h15 h16 h17 h18 h26 h27; rfl
  iexists _; isplitr; swap; · iexact H27
  ipureintro; rw [readB_U]; subst h2 h3 h4 h5 h6 h7 h8 h9 h10 h11 h12 h13 h14 h15 h16 h17 h18 h26 h27; rfl

end Cert.KernelIdeal.Body

end
-- ==== Proof.Region.lean ====
module

public import proofs.«01_k».proof.Proof.Sound
public import Idealize.ShloMosaic.Lib.Pipeline.FrameSuffix

@[expose] public section

set_option maxRecDepth 16384
set_option maxHeartbeats 2000000

noncomputable section

namespace Cert.KernelIdeal.Body

open Cert.KernelIdeal Cert.KernelIdeal.Gen
open Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The input windows' blocks at point `t`, as one record. -/
def insAt (c : Dev nD) (t : Fin cfg0.N) : Ins F :=
  insX (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)

/-- The column of point `t`, as the kernel reads it. -/
abbrev colAt (t : Fin cfg0.N) : BitVec 32 := BitVec.ofNat 32 (grid0.coords t 1).val

/-- The state point `t` starts its recurrence from, the one before it having left `H`. -/
def entH (t : Fin cfg0.N) (H : FVec F S2x16x1024 .f32) : FVec F S2x16x1024 .f32 :=
  if firstJ (grid0.coords t) then k0_pay82 (F := F) else H

/-- What the carried buffers hold after `n` points: the states and the last rows of the projection. -/
def aft (c : Dev nD) : ℕ → FVec F S2x16x1024 .f32 × FVec F S2x1024 .f32
  | 0 => (k0_pay82, fun y => (k0_pay82 (F := F)) (ix3 (y 0) 0 (y 1)))
  | n + 1 => if h : n < cfg0.N then
      (bodyH (colAt ⟨n, h⟩) (insAt m c ⟨n, h⟩) (entH ⟨n, h⟩ (aft c n).1) (aft c n).2, bodyU (insAt m c ⟨n, h⟩))
    else aft c n

/-- What point `t` writes. -/
def outAt (c : Dev nD) (t : Fin cfg0.N) : FVec F S2x512x512 .f32 :=
  bodyOut (colAt t) (insAt m c t) (entH t (aft m c t.val).1) (aft m c t.val).2

/-- What one point leaves is the body run on what the last one left. -/
theorem aft_succ (c : Dev nD) (t : Fin cfg0.N) :
    aft m c (t.val + 1) = (bodyH (colAt t) (insAt m c t) (entH t (aft m c t.val).1) (aft m c t.val).2, bodyU (insAt m c t)) := by
  show (if h : t.val < cfg0.N then _ else _) = _
  rw [dif_pos t.isLt]

/-- In the first column the kernel's column number is zero. -/
theorem col_first (t : Fin cfg0.N) (h : firstJ (grid0.coords t)) : colAt t = 0#32 := by
  have key : ∀ k : Fin 8, Scalar.cmpi .ne (Scalar.extui (Scalar.cmpi .eq (BitVec.ofNat 32 k.val) 0#32)) 0#32 = 1#1 → BitVec.ofNat 32 k.val = 0#32 := by decide
  exact key (grid0.coords t 1) h

/-- The very first point is in the first column. -/
theorem first_zero (t : Fin cfg0.N) (h : t.val = 0) : firstJ (grid0.coords t) := by
  have : t = (0 : Fin 32) := Fin.ext h
  subst this
  decide

/-- In the first column nothing carried enters the output. -/
theorem bodyOut_first (I : Ins F) (H : FVec F S2x16x1024 .f32) (U U' : FVec F S2x1024 .f32) :
    bodyOut (0#32) I H U = bodyOut (0#32) I H U' := by
  unfold bodyOut scanY scanU scanD scanB scanC
  rw [uTwo_first 0#32 rfl I U U']

/-- In the first column nothing carried enters the states. -/
theorem bodyH_first (I : Ins F) (H : FVec F S2x16x1024 .f32) (U U' : FVec F S2x1024 .f32) :
    bodyH (0#32) I H U = bodyH (0#32) I H U' := by
  unfold bodyH states scanU scanD scanB scanC
  rw [uTwo_first 0#32 rfl I U U']

/-- The region's invariant before point `n`: the scratch buffers, the carried ones at what the points so far left. -/
def PhiS (c : Dev nD) (n : Nat) (_ : n ≤ cfg0.N) : sProp 𝕄 :=
  iprop(∃ dH dU, ⌜n ≠ 0 → dH = (aft m c n).1 ∧ dU = (aft m c n).2⌝ ∗ iprop((∃ X, ow (F := F) c (Memref.whole cc0_scratch0) X) ∗ (∃ X, ow (F := F) c (Memref.whole cc0_scratch1) X) ∗ (∃ X, ow (F := F) c (Memref.whole cc0_scratch2) X) ∗ (∃ X, ow (F := F) c (Memref.whole cc0_scratch3) X) ∗ (∃ X, ow (F := F) c (Memref.whole cc0_scratch4) X) ∗ (∃ X, ow (F := F) c (Memref.whole cc0_scratch5) X) ∗ ow (F := F) c (Memref.whole cc0_scratch6) dH ∗ ow (F := F) c (Memref.whole cc0_scratch7) dU) ∗ (∃ r, prngReg c r))

/-- The launch's invariant, scratch buffer by scratch buffer. -/
theorem PhiA0_eq (c : Dev nD) :
    (Pipeline.ΦA spec0 c : sProp 𝕄) = iprop(iprop((∃ X, ow (F := F) c (Memref.whole cc0_scratch0) X) ∗ (∃ X, ow (F := F) c (Memref.whole cc0_scratch1) X) ∗ (∃ X, ow (F := F) c (Memref.whole cc0_scratch2) X) ∗ (∃ X, ow (F := F) c (Memref.whole cc0_scratch3) X) ∗ (∃ X, ow (F := F) c (Memref.whole cc0_scratch4) X) ∗ (∃ X, ow (F := F) c (Memref.whole cc0_scratch5) X) ∗ (∃ X, ow (F := F) c (Memref.whole cc0_scratch6) X) ∗ (∃ X, ow (F := F) c (Memref.whole cc0_scratch7) X)) ∗ (∃ r, prngReg c r)) := by
  unfold Pipeline.ΦA; rw [scopedRest0_eq]; simp only [owns_whole]; try rfl

/-- The proof data of the one pipeline: the arrays as the region finds them, each input block left in place, the output
block as computed, the carried buffers tracked. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => outAt m c t
    | ⟨n + 18, h⟩ => absurd h (Nat.not_lt.mpr (Nat.le_add_left 18 n))
  Φ t := PhiS m c t.val (Nat.le_of_lt_succ t.isLt)
  q w := Pipeline.shareOf spec0 w
  owed _ := 0

/-- A window reads the array the host left. -/
theorem A_eq (c : Dev nD) (w : Fin cfg0.W) : (dats m 0 c).A w = V m c (Pipeline.arrRef spec0 w) := by
  dsimp only [dats]
/-- After a point window 0 holds its block. -/
theorem after0_0 (c : Dev nD) (t : Fin cfg0.N) : (dats m 0 c).after 0 t = iblk m c 0 t := by dsimp only [dats]
/-- After a point window 1 holds its block. -/
theorem after0_1 (c : Dev nD) (t : Fin cfg0.N) : (dats m 0 c).after 1 t = iblk m c 1 t := by dsimp only [dats]
/-- After a point window 2 holds its block. -/
theorem after0_2 (c : Dev nD) (t : Fin cfg0.N) : (dats m 0 c).after 2 t = iblk m c 2 t := by dsimp only [dats]
/-- After a point window 3 holds its block. -/
theorem after0_3 (c : Dev nD) (t : Fin cfg0.N) : (dats m 0 c).after 3 t = iblk m c 3 t := by dsimp only [dats]
/-- After a point window 4 holds its block. -/
theorem after0_4 (c : Dev nD) (t : Fin cfg0.N) : (dats m 0 c).after 4 t = iblk m c 4 t := by dsimp only [dats]
/-- After a point window 5 holds its block. -/
theorem after0_5 (c : Dev nD) (t : Fin cfg0.N) : (dats m 0 c).after 5 t = iblk m c 5 t := by dsimp only [dats]
/-- After a point window 6 holds its block. -/
theorem after0_6 (c : Dev nD) (t : Fin cfg0.N) : (dats m 0 c).after 6 t = iblk m c 6 t := by dsimp only [dats]
/-- After a point window 7 holds its block. -/
theorem after0_7 (c : Dev nD) (t : Fin cfg0.N) : (dats m 0 c).after 7 t = iblk m c 7 t := by dsimp only [dats]
/-- After a point window 8 holds its block. -/
theorem after0_8 (c : Dev nD) (t : Fin cfg0.N) : (dats m 0 c).after 8 t = iblk m c 8 t := by dsimp only [dats]
/-- After a point window 9 holds its block. -/
theorem after0_9 (c : Dev nD) (t : Fin cfg0.N) : (dats m 0 c).after 9 t = iblk m c 9 t := by dsimp only [dats]
/-- After a point window 10 holds its block. -/
theorem after0_10 (c : Dev nD) (t : Fin cfg0.N) : (dats m 0 c).after 10 t = iblk m c 10 t := by dsimp only [dats]
/-- After a point window 11 holds its block. -/
theorem after0_11 (c : Dev nD) (t : Fin cfg0.N) : (dats m 0 c).after 11 t = iblk m c 11 t := by dsimp only [dats]
/-- After a point window 12 holds its block. -/
theorem after0_12 (c : Dev nD) (t : Fin cfg0.N) : (dats m 0 c).after 12 t = iblk m c 12 t := by dsimp only [dats]
/-- After a point window 13 holds its block. -/
theorem after0_13 (c : Dev nD) (t : Fin cfg0.N) : (dats m 0 c).after 13 t = iblk m c 13 t := by dsimp only [dats]
/-- After a point window 14 holds its block. -/
theorem after0_14 (c : Dev nD) (t : Fin cfg0.N) : (dats m 0 c).after 14 t = iblk m c 14 t := by dsimp only [dats]
/-- After a point window 15 holds its block. -/
theorem after0_15 (c : Dev nD) (t : Fin cfg0.N) : (dats m 0 c).after 15 t = iblk m c 15 t := by dsimp only [dats]
/-- After a point window 16 holds its block. -/
theorem after0_16 (c : Dev nD) (t : Fin cfg0.N) : (dats m 0 c).after 16 t = iblk m c 16 t := by dsimp only [dats]
/-- After a point the output window holds the body's result. -/
theorem after0_17 (c : Dev nD) (t : Fin cfg0.N) : (dats m 0 c).after 17 t = outAt m c t := by dsimp only [dats]
/-- Before a point window 0 holds its block. -/
theorem bef0_0 (c : Dev nD) (t : Fin cfg0.N) (d) : (dats m 0 c).before 0 t d = iblk m c 0 t := before0_0_of m (dats m 0 c) (A_eq m c 0) (after0_0 m c) t d
/-- Before a point window 1 holds its block. -/
theorem bef0_1 (c : Dev nD) (t : Fin cfg0.N) (d) : (dats m 0 c).before 1 t d = iblk m c 1 t := before0_1_of m (dats m 0 c) (A_eq m c 1) (after0_1 m c) t d
/-- Before a point window 2 holds its block. -/
theorem bef0_2 (c : Dev nD) (t : Fin cfg0.N) (d) : (dats m 0 c).before 2 t d = iblk m c 2 t := before0_2_of m (dats m 0 c) (A_eq m c 2) (after0_2 m c) t d
/-- Before a point window 3 holds its block. -/
theorem bef0_3 (c : Dev nD) (t : Fin cfg0.N) (d) : (dats m 0 c).before 3 t d = iblk m c 3 t := before0_3_of m (dats m 0 c) (A_eq m c 3) (after0_3 m c) t d
/-- Before a point window 4 holds its block. -/
theorem bef0_4 (c : Dev nD) (t : Fin cfg0.N) (d) : (dats m 0 c).before 4 t d = iblk m c 4 t := before0_4_of m (dats m 0 c) (A_eq m c 4) (after0_4 m c) t d
/-- Before a point window 5 holds its block. -/
theorem bef0_5 (c : Dev nD) (t : Fin cfg0.N) (d) : (dats m 0 c).before 5 t d = iblk m c 5 t := before0_5_of m (dats m 0 c) (A_eq m c 5) (after0_5 m c) t d
/-- Before a point window 6 holds its block. -/
theorem bef0_6 (c : Dev nD) (t : Fin cfg0.N) (d) : (dats m 0 c).before 6 t d = iblk m c 6 t := before0_6_of m (dats m 0 c) (A_eq m c 6) (after0_6 m c) t d
/-- Before a point window 7 holds its block. -/
theorem bef0_7 (c : Dev nD) (t : Fin cfg0.N) (d) : (dats m 0 c).before 7 t d = iblk m c 7 t := before0_7_of m (dats m 0 c) (A_eq m c 7) (after0_7 m c) t d
/-- Before a point window 8 holds its block. -/
theorem bef0_8 (c : Dev nD) (t : Fin cfg0.N) (d) : (dats m 0 c).before 8 t d = iblk m c 8 t := before0_8_of m (dats m 0 c) (A_eq m c 8) (after0_8 m c) t d
/-- Before a point window 9 holds its block. -/
theorem bef0_9 (c : Dev nD) (t : Fin cfg0.N) (d) : (dats m 0 c).before 9 t d = iblk m c 9 t := before0_9_of m (dats m 0 c) (A_eq m c 9) (after0_9 m c) t d
/-- Before a point window 10 holds its block. -/
theorem bef0_10 (c : Dev nD) (t : Fin cfg0.N) (d) : (dats m 0 c).before 10 t d = iblk m c 10 t := before0_10_of m (dats m 0 c) (A_eq m c 10) (after0_10 m c) t d
/-- Before a point window 11 holds its block. -/
theorem bef0_11 (c : Dev nD) (t : Fin cfg0.N) (d) : (dats m 0 c).before 11 t d = iblk m c 11 t := before0_11_of m (dats m 0 c) (A_eq m c 11) (after0_11 m c) t d
/-- Before a point window 12 holds its block. -/
theorem bef0_12 (c : Dev nD) (t : Fin cfg0.N) (d) : (dats m 0 c).before 12 t d = iblk m c 12 t := before0_12_of m (dats m 0 c) (A_eq m c 12) (after0_12 m c) t d
/-- Before a point window 13 holds its block. -/
theorem bef0_13 (c : Dev nD) (t : Fin cfg0.N) (d) : (dats m 0 c).before 13 t d = iblk m c 13 t := before0_13_of m (dats m 0 c) (A_eq m c 13) (after0_13 m c) t d
/-- Before a point window 14 holds its block. -/
theorem bef0_14 (c : Dev nD) (t : Fin cfg0.N) (d) : (dats m 0 c).before 14 t d = iblk m c 14 t := before0_14_of m (dats m 0 c) (A_eq m c 14) (after0_14 m c) t d
/-- Before a point window 15 holds its block. -/
theorem bef0_15 (c : Dev nD) (t : Fin cfg0.N) (d) : (dats m 0 c).before 15 t d = iblk m c 15 t := before0_15_of m (dats m 0 c) (A_eq m c 15) (after0_15 m c) t d
/-- Before a point window 16 holds its block. -/
theorem bef0_16 (c : Dev nD) (t : Fin cfg0.N) (d) : (dats m 0 c).before 16 t d = iblk m c 16 t := before0_16_of m (dats m 0 c) (A_eq m c 16) (after0_16 m c) t d

/-- The scratches before a point. -/
theorem PhiS_castSucc (c : Dev nD) (t : Fin cfg0.N) : (dats m 0 c).Φ t.castSucc = PhiS m c t.val (Nat.le_of_lt t.isLt) := by
  dsimp only [dats]; exact Pipeline.Dat.Φ_castSucc (PhiS m c) t
/-- The scratches after a point. -/
theorem PhiS_next (c : Dev nD) (t : Fin cfg0.N) : (dats m 0 c).Φ t.succ = PhiS m c (t.val + 1) t.isLt := by
  dsimp only [dats]; rfl

/-- What the body is given at point `t`. -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d)) ∗ (∃ d, owns (c : Thread nD τ) (st0_14 t) fullShare ((dats m 0 c).before 14 t d)) ∗ (∃ d, owns (c : Thread nD τ) (st0_15 t) fullShare ((dats m 0 c).before 15 t d)) ∗ (∃ d, owns (c : Thread nD τ) (st0_16 t) fullShare ((dats m 0 c).before 16 t d)) ∗ (∃ d, owns (c : Thread nD τ) (st0_17 t) fullShare ((dats m 0 c).before 17 t d)))
/-- What the body leaves at point `t`. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t) ∗ owns (c : Thread nD τ) (st0_12 t) fullShare ((dats m 0 c).after 12 t) ∗ owns (c : Thread nD τ) (st0_13 t) fullShare ((dats m 0 c).after 13 t) ∗ owns (c : Thread nD τ) (st0_14 t) fullShare ((dats m 0 c).after 14 t) ∗ owns (c : Thread nD τ) (st0_15 t) fullShare ((dats m 0 c).after 15 t) ∗ owns (c : Thread nD τ) (st0_16 t) fullShare ((dats m 0 c).after 16 t) ∗ owns (c : Thread nD τ) (st0_17 t) fullShare ((dats m 0 c).after 17 t))

/-- The body at one point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [PhiS_castSucc, PhiS_next, bef0_0, after0_0, bef0_1, after0_1, bef0_2, after0_2, bef0_3, after0_3, bef0_4, after0_4, bef0_5, after0_5, bef0_6, after0_6, bef0_7, after0_7, bef0_8, after0_8, bef0_9, after0_9, bef0_10, after0_10, bef0_11, after0_11, bef0_12, after0_12, bef0_13, after0_13, bef0_14, after0_14, bef0_15, after0_15, bef0_16, after0_16, after0_17]
  unfold PhiS Dat.owesAt Pipeline.owesWithin
  rw [show (dats m 0 c).owed t.castSucc = 0 from rfl, show (dats m 0 c).owed t.succ = 0 from rfl]
  iintro ⟨⟨%dH, %dU, %hd, ⟨S0, S1, S2, S3, S4, S5, S6, S7⟩, Hg⟩, ⟨%W, -, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  by_cases hj : firstJ (grid0.coords t)
  · have hz := col_first t hj
    have hO : outAt m c t = bodyOut (colAt t) (insAt m c t) (k0_pay82 (F := F)) dU := by
      unfold outAt entH; rw [if_pos hj, hz]; exact bodyOut_first _ _ _ _
    have hH : bodyH (colAt t) (insAt m c t) (k0_pay82 (F := F)) dU = bodyH (colAt t) (insAt m c t) (entH t (aft m c t.val).1) (aft m c t.val).2 := by
      unfold entH; rw [if_pos hj, hz]; exact bodyH_first _ _ _ _
    iapply (sound_first (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) dH dU hj Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iintro ⟨H0, H1, H2, H3, H4, H5, H6, H7, H8, H9, H10, H11, H12, H13, H14, H15, H16, H17, S0, S1, S2, S3, S4, S5, S6, S7⟩
    isplitl [S0 S1 S2 S3 S4 S5 S6 S7 Hg]
    · iexists _, _
      isplitr
      · ipureintro; intro _; rw [aft_succ]; exact ⟨hH, rfl⟩
      isplitl [S0 S1 S2 S3 S4 S5 S6 S7]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      iexact Hg
    isplitl [HO]
    · iexists W; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    rw [hO]; iexact H17
  · have hn : t.val ≠ 0 := fun h => hj (first_zero t h)
    obtain ⟨hdH, hdU⟩ := hd hn
    subst hdH hdU
    have hO : outAt m c t = bodyOut (colAt t) (insAt m c t) (aft m c t.val).1 (aft m c t.val).2 := by
      unfold outAt entH; rw [if_neg hj]
    have hH : bodyH (colAt t) (insAt m c t) (aft m c t.val).1 (aft m c t.val).2 = bodyH (colAt t) (insAt m c t) (entH t (aft m c t.val).1) (aft m c t.val).2 := by
      unfold entH; rw [if_neg hj]
    iapply (sound_later (F := F) c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (st0_12 t) (hstage0_12 ((cfg0.slots t 12).cast nbuf0_12)) (st0_13 t) (hstage0_13 ((cfg0.slots t 13).cast nbuf0_13)) (st0_14 t) (hstage0_14 ((cfg0.slots t 14).cast nbuf0_14)) (st0_15 t) (hstage0_15 ((cfg0.slots t 15).cast nbuf0_15)) (st0_16 t) (hstage0_16 ((cfg0.slots t 16).cast nbuf0_16)) (st0_17 t) (hstage0_17 ((cfg0.slots t 17).cast nbuf0_17)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (aft m c t.val).1 (aft m c t.val).2 hj Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    iintro ⟨H0, H1, H2, H3, H4, H5, H6, H7, H8, H9, H10, H11, H12, H13, H14, H15, H16, H17, S0, S1, S2, S3, S4, S5, S6, S7⟩
    isplitl [S0 S1 S2 S3 S4 S5 S6 S7 Hg]
    · iexists _, _
      isplitr
      · ipureintro; intro _; rw [aft_succ]; exact ⟨hH, rfl⟩
      isplitl [S0 S1 S2 S3 S4 S5 S6 S7]
      · isplitl [S0]; · iexact S0
        isplitl [S1]; · iexact S1
        isplitl [S2]; · iexact S2
        isplitl [S3]; · iexact S3
        isplitl [S4]; · iexact S4
        isplitl [S5]; · iexact S5
        isplitl [S6]; · iexact S6
        iexact S7
      iexact Hg
    isplitl [HO]
    · iexists W; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    rw [hO]; iexact H17

/-- The body the launch runs at a point. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands over is the invariant before the first point. -/
theorem hin (c : Dev nD) : Pipeline.ΦA spec0 c ⊢ (dats m 0 c).Φ 0 := by
  rw [show (dats m 0 c).Φ 0 = PhiS m c 0 (Nat.zero_le _) from rfl, PhiA0_eq]
  unfold PhiS
  iintro ⟨⟨S0, S1, S2, S3, S4, S5, ⟨%dH, S6⟩, ⟨%dU, S7⟩⟩, Hg⟩
  iexists dH, dU
  isplitr
  · ipureintro; exact fun h => absurd rfl h
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iexact Hg

/-- After the last point the scratch buffers go back, their contents forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  unfold PhiS
  iintro ⟨%dH, %dU, -, ⟨S0, S1, S2, S3, S4, S5, S6, S7⟩, Hg⟩
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexists _; iexact S6
    iexists _; iexact S7
  iexact Hg

/-- The whole run: every window's array as the points left it, every other array as the host lines leave it, every
semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared cfgs (dats m) (0 : Fin 1) launch₀0 defs₀ Variants.none m ρ main
    (hbody := fun c => (body_obligation m c).loose) (hq := fun c w _ => by dsimp only [dats]) (howed := fun _ _ => rfl) (V₀ := V0 m) (opss := [hostOps1])
    (hsub := sfx_sub) (hfresh := sfx_fresh) (hkeep := sfx_keeps) (hmain := hmain m Variants.none) (hA := A_eq m)
    (Q' := fun r => Pipeline.FramePost cfgs (dats m) 0 (Pipeline.afterTail₀ cfgs (dats m) 0 (V0 m) [hostOps1]) r ∧ r.2.sem = fun _ => 0)
    (hin := hin m) (hout := hout m) (hQ' := fun _ h => h)

/-- The frame: the arguments end as launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun _ h => ⟨fun c => ⟨((h.1 c).2 main_arg0 (Pipeline.mem_restRefs_of main_arg0 (by decide) (by decide))).trans (W_main_arg0 m (dats m) c), ((h.1 c).2 main_arg1 (Pipeline.mem_restRefs_of main_arg1 (by decide) (by decide))).trans (W_main_arg1 m (dats m) c), ((h.1 c).2 main_arg2 (Pipeline.mem_restRefs_of main_arg2 (by decide) (by decide))).trans (W_main_arg2 m (dats m) c), ((h.1 c).2 main_arg3 (Pipeline.mem_restRefs_of main_arg3 (by decide) (by decide))).trans (W_main_arg3 m (dats m) c), ((h.1 c).2 main_arg4 (Pipeline.mem_restRefs_of main_arg4 (by decide) (by decide))).trans (W_main_arg4 m (dats m) c), ((h.1 c).2 main_arg5 (Pipeline.mem_restRefs_of main_arg5 (by decide) (by decide))).trans (W_main_arg5 m (dats m) c), ((h.1 c).2 main_arg6 (Pipeline.mem_restRefs_of main_arg6 (by decide) (by decide))).trans (W_main_arg6 m (dats m) c), ((h.1 c).2 main_arg7 (Pipeline.mem_restRefs_of main_arg7 (by decide) (by decide))).trans (W_main_arg7 m (dats m) c), ((h.1 c).2 main_arg8 (Pipeline.mem_restRefs_of main_arg8 (by decide) (by decide))).trans (W_main_arg8 m (dats m) c), ((h.1 c).2 main_arg9 (Pipeline.mem_restRefs_of main_arg9 (by decide) (by decide))).trans (W_main_arg9 m (dats m) c), ((h.1 c).2 main_arg10 (Pipeline.mem_restRefs_of main_arg10 (by decide) (by decide))).trans (W_main_arg10 m (dats m) c), ((h.1 c).2 main_arg11 (Pipeline.mem_restRefs_of main_arg11 (by decide) (by decide))).trans (W_main_arg11 m (dats m) c)⟩, h.2⟩) (run_main m ρ)

end Cert.KernelIdeal.Body

end
-- ==== Proof.Same.lean ====
module

public import proofs.«01_k».proof.Defs
public import proofs.«01_k».proof.Proof.Gen.Kernel
public import proofs.«01_k».proof.Proof.Gen.KernelIdeal

@[expose] public section

set_option maxRecDepth 65536
set_option maxHeartbeats 4000000

noncomputable section

/-! The printed kernel and the one read at the extended reals are the same text, under two names. -/

namespace Cert.Same

open Idealize.ShloMosaic

local instance : Cert.Kernel.Facts := Cert.Kernel.Gen.facts
local instance : Cert.KernelIdeal.Facts := Cert.KernelIdeal.Gen.facts

/-- The two host programs are one. -/
theorem main_eq : Cert.Kernel.main (F := Bits) = Cert.KernelIdeal.main (F := Bits) := rfl

/-- The two kernel bodies are one. -/
theorem body_eq : Cert.Kernel.cc0_vsss_block1d (F := Bits) = Cert.KernelIdeal.cc0_vsss_block1d (F := Bits) := rfl

/-- The two tables of bodies are one. -/
theorem defs₀_eq : Cert.Kernel.defs₀ (F := Bits) = Cert.KernelIdeal.defs₀ (F := Bits) := by
  unfold Cert.Kernel.defs₀ Cert.KernelIdeal.defs₀
  congr 1
  funext b a
  match b, a with
  | 0, (t, s) =>
    dsimp only
    rw [body_eq]
    rfl
  | ⟨_ + 1, h⟩, _ => exact absurd h (Nat.not_lt.2 (Nat.le_add_left _ _))

/-- The two programs' definitions are one. -/
theorem defs_eq : Cert.Kernel.defs (F := Bits) = Cert.KernelIdeal.defs (F := Bits) :=
  congrArg (Pipeline.defs Cert.KernelIdeal.pcfgs) defs₀_eq

end Cert.Same

end
-- ==== Proof.RefRun.lean ====
module

public import proofs.«01_k».proof.Proof.Gen.ReferenceIdeal.Run
public import proofs.«01_k».proof.Proof.Gen.ReferenceIdeal.Step
public import Idealize.ShloMosaic.Lib.Quiescent

@[expose] public section

set_option maxRecDepth 8192

noncomputable section

/-! The reference's loop as a plain iteration of one step on its carried arrays. -/

namespace Cert.ReferenceIdeal.Loop

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init R_main_v64)

variable {F : FTy → Type} [FloatOps F]

variable (V0 : Valuation τ sig (Elt F)) (s : State F) (j : ℕ)

/-- The buffers hold the state `s` before trip `j`. -/
structure Has : Prop where
  f_8 : V0 (Proc.devRef .tc main_v57_8) = s.main_v57_8
  f_9 : V0 (Proc.devRef .tc main_v57_9) = s.main_v57_9
  f_0 : V0 (Proc.devRef .tc main_v57_0) = s.main_v57_0
  f_1 : V0 (Proc.devRef .tc main_v57_1) = s.main_v57_1
  f_2 : V0 (Proc.devRef .tc main_v57_2) = s.main_v57_2
  f_3 : V0 (Proc.devRef .tc main_v57_3) = s.main_v57_3
  f_4 : V0 (Proc.devRef .tc main_v57_4) = s.main_v57_4
  f_5 : V0 (Proc.devRef .tc main_v57_5) = s.main_v57_5
  f_6 : V0 (Proc.devRef .tc main_v57_6) = s.main_v57_6
  n_7 : V0 (Proc.devRef .tc main_v57_7) = constantI S_ 32 (BitVec.ofNat 32 j)

variable {V0 s j}

/-- One trip's new carried state is the step's. -/
theorem next_8 (h : Has V0 s j) : step_main_v57_8 V0 = (step j s).main_v57_8 := by
  unfold step_main_v57_8 res_main_while0b_v83 res_main_while0b_v65 res_main_while0b_v66
  rw [h.f_0, h.f_1, h.f_2, h.f_5, h.f_8, h.n_7]
  rfl

/-- One trip's rows so far are the step's. -/
theorem next_9 (h : Has V0 s j) : step_main_v57_9 V0 = (step j s).main_v57_9 := by
  unfold step_main_v57_9 res_main_while0b_v83 res_main_while0b_v65 res_main_while0b_v66
  rw [h.f_0, h.f_1, h.f_2, h.f_3, h.f_4, h.f_5, h.f_6, h.f_8, h.f_9, h.n_7]
  rfl

/-- One trip adds one to the counter. -/
theorem next_7 (h : Has V0 s j) : step_main_v57_7 V0 = constantI S_ 32 (BitVec.ofNat 32 (j + 1)) := by
  unfold step_main_v57_7
  rw [h.n_7]
  funext i
  show BitVec.ofNat 32 j + 1#32 = BitVec.ofNat 32 (j + 1)
  rw [BitVec.ofNat_add]

/-- One trip takes a held state to its step. -/
theorem has_step (h : Has V0 s j) : Has (STEP V0) (step j s) (j + 1) where
  f_8 := (STEP_main_v57_8 V0).trans (next_8 h)
  f_9 := (STEP_main_v57_9 V0).trans (next_9 h)
  n_7 := (STEP_main_v57_7 V0).trans (next_7 h)
  f_0 := (STEP_main_v57_0 V0).trans h.f_0
  f_1 := (STEP_main_v57_1 V0).trans h.f_1
  f_2 := (STEP_main_v57_2 V0).trans h.f_2
  f_3 := (STEP_main_v57_3 V0).trans h.f_3
  f_4 := (STEP_main_v57_4 V0).trans h.f_4
  f_5 := (STEP_main_v57_5 V0).trans h.f_5
  f_6 := (STEP_main_v57_6 V0).trans h.f_6

variable (m : (ℓ : Loc nD τ sig) → Buf (Elt F) ℓ) (c : Dev nD)

/-- The state the loop starts from. -/
abbrev start : State F :=
  init (m ((c.tc : Thread nD τ).loc main_arg9)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

set_option maxRecDepth 65536 in
set_option maxHeartbeats 1600000 in
/-- The host operations before the loop leave the starting state. -/
theorem has_start : Has (entryContents preI m c) (start m c) 0 := by
  constructor <;> (simp only [entryContents, StableHlo.afterL_cons, StableHlo.afterL_nil]; after_reads_simp) <;> rfl

/-- The states, trip after trip. -/
def at_ : ℕ → State F
  | 0 => start m c
  | n + 1 => step n (at_ n)

/-- Before trip `k` the buffers hold the `k`-th state. -/
theorem has_at : ∀ k, Has (STEP^[k] (entryContents preI m c)) (at_ m c k) k
  | 0 => has_start m c
  | k + 1 => by
    rw [Function.iterate_succ_apply']
    exact has_step (has_at k)

/-- The result is read off the last state. -/
theorem out_eq (k : ℕ) : out_main_v64 (STEP^[k] (entryContents preI m c)) = R_main_v64 (at_ m c k) (m ((c.tc : Thread nD τ).loc main_arg0)) (m ((c.tc : Thread nD τ).loc main_arg10)) (m ((c.tc : Thread nD τ).loc main_arg11)) := by
  unfold out_main_v64 R_main_v64
  rw [(has_at m c k).f_9, iter_main_arg0, iter_main_arg10, iter_main_arg11]

end Cert.ReferenceIdeal.Loop

end
-- ==== Proof.Frames.lean ====
module

public import proofs.«01_k».proof.Defs
public import proofs.«01_k».proof.Proof.Region
public import proofs.«01_k».proof.Proof.Same
public import proofs.«01_k».proof.Proof.RefRun

@[expose] public section

set_option maxRecDepth 65536
set_option maxHeartbeats 1000000

noncomputable section

namespace Cert.Frames

open Idealize.ShloMosaic Idealize.SL.Sem

/-- The kernel at the extended reals ends, its arguments unchanged and every counter at zero. -/
theorem kernelIdeal : Cert.quiescent_KernelIdeal (hKernelIdeal := Cert.KernelIdeal.Gen.facts) :=
  fun m g _ => Cert.KernelIdeal.Body.frame (F := Ideal) m g

/-- The printed kernel and its reading at the extended reals are the same text, so the frame is the same. -/
theorem kernel : Cert.quiescent_Kernel (hKernel := Cert.Kernel.Gen.facts) := fun m g _ => by
  have h := Cert.KernelIdeal.Body.frame (F := Bits) m g
  rw [← Cert.Same.main_eq, ← Cert.Same.defs_eq] at h
  exact h

/-- The reference ends with its arguments unchanged; it declares no counter. -/
theorem referenceIdeal : Cert.quiescent_ReferenceIdeal (hReferenceIdeal := Cert.ReferenceIdeal.Gen.facts) := fun m g _ =>
  (θ_run _ _ _).mono (fun _ h => ⟨fun c => (h c).2, sem_eq_zero_of_no_sems rfl _⟩) (Cert.ReferenceIdeal.Value.run (F := Ideal) m g)

end Cert.Frames

end
-- ==== Proof.Spec.lean ====
module

public import Idealize.ShloMosaic.Lib.Pointwise

@[expose] public section

noncomputable section

/-! The mathematics both programs compute, element by element, over the extended reals. -/

namespace Cert.Spec

open Idealize.ShloMosaic

/-- The arguments. -/
structure Args where
  a0 : FVec Ideal ⟨3, ![8, 512, 4096]⟩ .f32
  a1 : FVec Ideal ⟨2, ![2048, 512]⟩ .f32
  a2 : FVec Ideal ⟨1, ![2048]⟩ .f32
  a3 : FVec Ideal ⟨3, ![1024, 1, 3]⟩ .f32
  a4 : FVec Ideal ⟨1, ![1024]⟩ .f32
  a5 : FVec Ideal ⟨2, ![64, 1024]⟩ .f32
  a6 : FVec Ideal ⟨2, ![1024, 32]⟩ .f32
  a7 : FVec Ideal ⟨1, ![1024]⟩ .f32
  a8 : FVec Ideal ⟨2, ![1024, 16]⟩ .f32
  a9 : FVec Ideal ⟨1, ![1024]⟩ .f32
  a10 : FVec Ideal ⟨2, ![512, 1024]⟩ .f32
  a11 : FVec Ideal ⟨1, ![512]⟩ .f32

/-- An extended real times its logistic value. -/
def silu (v : EReal) : EReal := v * Ideal.div 1 (1 + Ideal.exp (-v))

/-- The softplus of an extended real. -/
def softplus (v : EReal) : EReal := max v 0 + Ideal.log1p (Ideal.exp (-(FloatOps.absf (F := Ideal) (φ := .f32) v : EReal)))

variable (p : Args) (b : Fin 8)

/-- The input projection. -/
def inp (o : Fin 2048) (l : Fin 4096) : EReal := ∑ k : Fin 512, p.a0 (ix3 b k l) * p.a1 (ix2 o k) + p.a2 (ix1 o)

/-- Its first half. -/
def u (d : Fin 1024) (l : Fin 4096) : EReal := inp p b ⟨d.val, by omega⟩ l

/-- Its second half. -/
def z (d : Fin 1024) (l : Fin 4096) : EReal := inp p b ⟨1024 + d.val, by omega⟩ l

/-- The value one step before, zero at the first. -/
def before (d : Fin 1024) (l : Fin 4096) : EReal := if h : l.val < 1 then 0 else u p b d ⟨l.val - 1, by omega⟩

/-- The value one step after, zero at the last. -/
def after (d : Fin 1024) (l : Fin 4096) : EReal := if h : l.val < 4095 then u p b d ⟨1 + l.val, by omega⟩ else 0

/-- The convolution. -/
def conv (d : Fin 1024) (l : Fin 4096) : EReal :=
  before p b d l * p.a3 (ix3 d 0 0) + u p b d l * p.a3 (ix3 d 0 1) + after p b d l * p.a3 (ix3 d 0 2) + p.a4 (ix1 d)

/-- The scan's input. -/
def v (d : Fin 1024) (l : Fin 4096) : EReal := silu (conv p b d l)

/-- The projection of the scan's input. -/
def xd (o : Fin 64) (l : Fin 4096) : EReal := ∑ d : Fin 1024, v p b d l * p.a5 (ix2 o d)

/-- The step sizes. -/
def dl (d : Fin 1024) (l : Fin 4096) : EReal :=
  softplus (∑ r : Fin 32, xd p b ⟨r.val, by omega⟩ l * p.a6 (ix2 d r) + p.a7 (ix1 d) + p.a7 (ix1 d))

/-- The decay rates. -/
def rate (d : Fin 1024) (n : Fin 16) : EReal := -Ideal.exp (p.a8 (ix2 d n))

/-- One step of the recurrence at time `l` on the value `h`. -/
def next (d : Fin 1024) (n : Fin 16) (l : Fin 4096) (h : EReal) : EReal :=
  Ideal.exp (dl p b d l * rate p d n) * h + dl p b d l * v p b d l * xd p b ⟨32 + n.val, by omega⟩ l

/-- The state before time `l`. -/
def st (d : Fin 1024) (n : Fin 16) : ℕ → EReal
  | 0 => 0
  | l + 1 => if h : l < 4096 then next p b d n ⟨l, h⟩ (st d n l) else st d n l

/-- The gated output of the scan. -/
def y (d : Fin 1024) (l : Fin 4096) : EReal :=
  (∑ n : Fin 16, st p b d n (l.val + 1) * xd p b ⟨48 + n.val, by omega⟩ l + p.a9 (ix1 d) * v p b d l) * silu (z p b d l)

/-- The result. -/
def out (o : Fin 512) (l : Fin 4096) : EReal :=
  ∑ d : Fin 1024, y p b d l * p.a10 (ix2 o d) + p.a11 (ix1 o) + p.a0 (ix3 b o l)

/-- The state after time `l`. -/
theorem st_succ (d : Fin 1024) (n : Fin 16) (l : Fin 4096) : st p b d n (l.val + 1) = next p b d n l (st p b d n l.val) := dif_pos l.isLt

end Cert.Spec

end
-- ==== Proof.Host.lean ====
module

public import proofs.«01_k».proof.Proof.Region
import all proofs.«01_k».proof.Proof.Region
public import proofs.«01_k».proof.Proof.Spec
public import Idealize.ShloMosaic.Lib.StableHlo.Run
public import Idealize.ShloMosaic.Lib.Pointwise

/-! # What the host lines hand the kernel

Every array the kernel's windows read, at an index, in terms of the arguments: transposes, cuts and casts only. -/

@[expose] public section

set_option maxRecDepth 65536
set_option maxHeartbeats 1000000

noncomputable section

namespace Cert.KernelIdeal.Val

open Cert Cert.KernelIdeal Cert.KernelIdeal.Gen Cert.KernelIdeal.Body
open Idealize.ShloMosaic Idealize.ShloMosaic.TcCoe Idealize.ShloMosaic.Tactic

variable (m : (ℓ : Loc nD τ sig) → Buf (Elt Ideal) ℓ) (c : Dev nD)
variable (k o : Fin 512) (d : Fin 1024) (n : Fin 16) (r : Fin 32) (w : Fin 3) (b : Fin 8) (l : Fin 4096)

/-- The twelve arguments as the kernel finds them. -/
def kargs : Spec.Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)

/-- The input with time second. -/
theorem host_v0 : (V (F := Ideal) m c main_v0 : FVec Ideal S8x4096x512 .f32) (ix3 b l k) = (kargs m c).a0 (ix3 b k l) := by
  have e : (V (F := Ideal) m c main_v0 : FVec Ideal S8x4096x512 .f32)
      = transpose S8x4096x512 [0, 2, 1] ((kargs m c).a0 : FVec Ideal S8x512x4096 .f32) transposes_S8x512x4096_S8x4096x512_0_2_1 := by
    unfold V V0
    simp only [hostOps0, List.flatten_cons, List.flatten_nil, List.append_nil]
    after_results
    try rfl
  rw [e]
  pointwise []

/-- The first half of the input projection, transposed. -/
theorem host_v3 : (V (F := Ideal) m c main_v3 : FVec Ideal S512x1024 .bf16) (ix2 k d) = (kargs m c).a1 (ix2 ⟨d.val, by omega⟩ k) := by
  have e : (V (F := Ideal) m c main_v3 : FVec Ideal S512x1024 .bf16) = truncf (F := Ideal) .bf16 (transpose S512x1024 [1, 0]
      (extractStridedSlice S1024x512 ![0, 0] ((kargs m c).a1 : FVec Ideal S2048x512 .f32) slices_S2048x512_S1024x512_0_0)
      transposes_S1024x512_S512x1024_1_0) bitsLt_bf16_f32 := by
    unfold V V0
    simp only [hostOps0, List.flatten_cons, List.flatten_nil, List.append_nil]
    after_results
    try rfl
  rw [e]
  pointwise []

/-- The second half of the input projection, transposed. -/
theorem host_v6 : (V (F := Ideal) m c main_v6 : FVec Ideal S512x1024 .bf16) (ix2 k d) = (kargs m c).a1 (ix2 ⟨1024 + d.val, by omega⟩ k) := by
  have e : (V (F := Ideal) m c main_v6 : FVec Ideal S512x1024 .bf16) = truncf (F := Ideal) .bf16 (transpose S512x1024 [1, 0]
      (extractStridedSlice S1024x512 ![1024, 0] ((kargs m c).a1 : FVec Ideal S2048x512 .f32) slices_S2048x512_S1024x512_1024_0)
      transposes_S1024x512_S512x1024_1_0) bitsLt_bf16_f32 := by
    unfold V V0
    simp only [hostOps0, List.flatten_cons, List.flatten_nil, List.append_nil]
    after_results
    try rfl
  rw [e]
  pointwise []

/-- The first half of the projection's bias. -/
theorem host_v8 : (V (F := Ideal) m c main_v8 : FVec Ideal S1x1024 .f32) (ix2 0 d) = (kargs m c).a2 (ix1 ⟨d.val, by omega⟩) := by
  have e : (V (F := Ideal) m c main_v8 : FVec Ideal S1x1024 .f32) = broadcastInDim S1x1024 ![1] bcast_S1024_S1x1024_1
      (extractStridedSlice S1024 ![0] ((kargs m c).a2 : FVec Ideal S2048 .f32) slices_S2048_S1024_0) := by
    unfold V V0
    simp only [hostOps0, List.flatten_cons, List.flatten_nil, List.append_nil]
    after_results
    try rfl
  rw [e]
  pointwise []

/-- The second half of the projection's bias. -/
theorem host_v10 : (V (F := Ideal) m c main_v10 : FVec Ideal S1x1024 .f32) (ix2 0 d) = (kargs m c).a2 (ix1 ⟨1024 + d.val, by omega⟩) := by
  have e : (V (F := Ideal) m c main_v10 : FVec Ideal S1x1024 .f32) = broadcastInDim S1x1024 ![1] bcast_S1024_S1x1024_1
      (extractStridedSlice S1024 ![1024] ((kargs m c).a2 : FVec Ideal S2048 .f32) slices_S2048_S1024_1024) := by
    unfold V V0
    simp only [hostOps0, List.flatten_cons, List.flatten_nil, List.append_nil]
    after_results
    try rfl
  rw [e]
  pointwise []

/-- The convolution's weights, transposed. -/
theorem host_v12 : (V (F := Ideal) m c main_v12 : FVec Ideal S3x1024 .f32) (ix2 w d) = (kargs m c).a3 (ix3 d 0 w) := by
  have e : (V (F := Ideal) m c main_v12 : FVec Ideal S3x1024 .f32) = transpose S3x1024 [1, 0]
      (shapeCast S1024x3 ((kargs m c).a3 : FVec Ideal S1024x1x3 .f32) shapeCasts_S1024x1x3_S1024x3) transposes_S1024x3_S3x1024_1_0 := by
    unfold V V0
    simp only [hostOps0, List.flatten_cons, List.flatten_nil, List.append_nil]
    after_results
    try rfl
  rw [e]
  pointwise []

/-- The convolution's bias. -/
theorem host_v13 : (V (F := Ideal) m c main_v13 : FVec Ideal S1x1024 .f32) (ix2 0 d) = (kargs m c).a4 (ix1 d) := by
  have e : (V (F := Ideal) m c main_v13 : FVec Ideal S1x1024 .f32) = broadcastInDim S1x1024 ![1] bcast_S1024_S1x1024_1
      ((kargs m c).a4 : FVec Ideal S1024 .f32) := by
    unfold V V0
    simp only [hostOps0, List.flatten_cons, List.flatten_nil, List.append_nil]
    after_results
    try rfl
  rw [e]
  pointwise []

/-- The rows of the second projection that make the step size. -/
theorem host_v15 : (V (F := Ideal) m c main_v15 : FVec Ideal S32x1024 .bf16) (ix2 r d) = (kargs m c).a5 (ix2 ⟨r.val, by omega⟩ d) := by
  have e : (V (F := Ideal) m c main_v15 : FVec Ideal S32x1024 .bf16) = truncf (F := Ideal) .bf16
      (extractStridedSlice S32x1024 ![0, 0] ((kargs m c).a5 : FVec Ideal S64x1024 .f32) slices_S64x1024_S32x1024_0_0) bitsLt_bf16_f32 := by
    unfold V V0
    simp only [hostOps0, List.flatten_cons, List.flatten_nil, List.append_nil]
    after_results
    try rfl
  rw [e]
  pointwise []

/-- The rows of the second projection that make the recurrence's input weights. -/
theorem host_v17 : (V (F := Ideal) m c main_v17 : FVec Ideal S16x1024 .bf16) (ix2 n d) = (kargs m c).a5 (ix2 ⟨32 + n.val, by omega⟩ d) := by
  have e : (V (F := Ideal) m c main_v17 : FVec Ideal S16x1024 .bf16) = truncf (F := Ideal) .bf16
      (extractStridedSlice S16x1024 ![32, 0] ((kargs m c).a5 : FVec Ideal S64x1024 .f32) slices_S64x1024_S16x1024_32_0) bitsLt_bf16_f32 := by
    unfold V V0
    simp only [hostOps0, List.flatten_cons, List.flatten_nil, List.append_nil]
    after_results
    try rfl
  rw [e]
  pointwise []

/-- The rows of the second projection that make the recurrence's output weights. -/
theorem host_v19 : (V (F := Ideal) m c main_v19 : FVec Ideal S16x1024 .bf16) (ix2 n d) = (kargs m c).a5 (ix2 ⟨48 + n.val, by omega⟩ d) := by
  have e : (V (F := Ideal) m c main_v19 : FVec Ideal S16x1024 .bf16) = truncf (F := Ideal) .bf16
      (extractStridedSlice S16x1024 ![48, 0] ((kargs m c).a5 : FVec Ideal S64x1024 .f32) slices_S64x1024_S16x1024_48_0) bitsLt_bf16_f32 := by
    unfold V V0
    simp only [hostOps0, List.flatten_cons, List.flatten_nil, List.append_nil]
    after_results
    try rfl
  rw [e]
  pointwise []

/-- The step size's projection, transposed. -/
theorem host_v21 : (V (F := Ideal) m c main_v21 : FVec Ideal S32x1024 .bf16) (ix2 r d) = (kargs m c).a6 (ix2 d r) := by
  have e : (V (F := Ideal) m c main_v21 : FVec Ideal S32x1024 .bf16) = truncf (F := Ideal) .bf16
      (transpose S32x1024 [1, 0] ((kargs m c).a6 : FVec Ideal S1024x32 .f32) transposes_S1024x32_S32x1024_1_0) bitsLt_bf16_f32 := by
    unfold V V0
    simp only [hostOps0, List.flatten_cons, List.flatten_nil, List.append_nil]
    after_results
    try rfl
  rw [e]
  pointwise []

/-- The step size's bias. -/
theorem host_v22 : (V (F := Ideal) m c main_v22 : FVec Ideal S1x1024 .f32) (ix2 0 d) = (kargs m c).a7 (ix1 d) := by
  have e : (V (F := Ideal) m c main_v22 : FVec Ideal S1x1024 .f32) = broadcastInDim S1x1024 ![1] bcast_S1024_S1x1024_1
      ((kargs m c).a7 : FVec Ideal S1024 .f32) := by
    unfold V V0
    simp only [hostOps0, List.flatten_cons, List.flatten_nil, List.append_nil]
    after_results
    try rfl
  rw [e]
  pointwise []

/-- The recurrence's rates, transposed. -/
theorem host_v23 : (V (F := Ideal) m c main_v23 : FVec Ideal S16x1024 .f32) (ix2 n d) = (kargs m c).a8 (ix2 d n) := by
  have e : (V (F := Ideal) m c main_v23 : FVec Ideal S16x1024 .f32)
      = transpose S16x1024 [1, 0] ((kargs m c).a8 : FVec Ideal S1024x16 .f32) transposes_S1024x16_S16x1024_1_0 := by
    unfold V V0
    simp only [hostOps0, List.flatten_cons, List.flatten_nil, List.append_nil]
    after_results
    try rfl
  rw [e]
  pointwise []

/-- The skip weights. -/
theorem host_v24 : (V (F := Ideal) m c main_v24 : FVec Ideal S1x1024 .f32) (ix2 0 d) = (kargs m c).a9 (ix1 d) := by
  have e : (V (F := Ideal) m c main_v24 : FVec Ideal S1x1024 .f32) = broadcastInDim S1x1024 ![1] bcast_S1024_S1x1024_1
      ((kargs m c).a9 : FVec Ideal S1024 .f32) := by
    unfold V V0
    simp only [hostOps0, List.flatten_cons, List.flatten_nil, List.append_nil]
    after_results
    try rfl
  rw [e]
  pointwise []

/-- The output projection, transposed. -/
theorem host_v26 : (V (F := Ideal) m c main_v26 : FVec Ideal S1024x512 .bf16) (ix2 d o) = (kargs m c).a10 (ix2 o d) := by
  have e : (V (F := Ideal) m c main_v26 : FVec Ideal S1024x512 .bf16) = truncf (F := Ideal) .bf16
      (transpose S1024x512 [1, 0] ((kargs m c).a10 : FVec Ideal S512x1024 .f32) transposes_S512x1024_S1024x512_1_0) bitsLt_bf16_f32 := by
    unfold V V0
    simp only [hostOps0, List.flatten_cons, List.flatten_nil, List.append_nil]
    after_results
    try rfl
  rw [e]
  pointwise []

/-- The output projection's bias. -/
theorem host_v27 : (V (F := Ideal) m c main_v27 : FVec Ideal S1x512 .f32) (ix2 0 o) = (kargs m c).a11 (ix1 o) := by
  have e : (V (F := Ideal) m c main_v27 : FVec Ideal S1x512 .f32) = broadcastInDim S1x512 ![1] bcast_S512_S1x512_1
      ((kargs m c).a11 : FVec Ideal S512 .f32) := by
    unfold V V0
    simp only [hostOps0, List.flatten_cons, List.flatten_nil, List.append_nil]
    after_results
    try rfl
  rw [e]
  pointwise []

end Cert.KernelIdeal.Val

end
-- ==== Proof.TripVal.lean ====
module

public import proofs.«01_k».proof.Proof.Trip
import all proofs.«01_k».proof.Proof.Trip
public import Idealize.ShloMosaic.Lib.Pointwise

@[expose] public section

set_option maxRecDepth 65536
set_option maxHeartbeats 4000000

noncomputable section

namespace Cert.KernelIdeal.Val

open Cert Cert.KernelIdeal Cert.KernelIdeal.Gen Cert.KernelIdeal.Body
open Idealize.ShloMosaic Idealize.ShloMosaic.TcCoe Idealize.ShloMosaic.Tactic

/-- The value of the state at one place after `r` of a trip's eight rows. -/
def rowSt (a h : FVec Ideal S16x1024 .f32) (dl u : FVec Ideal S1x1x8x1024 .f32) (b : FVec Ideal S1x1x8x16 .f32) (n : Fin 16) (d : Fin 1024) : ℕ → EReal
  | 0 => h (ix2 n d)
  | r + 1 => if hr : r < 8 then
      Ideal.exp (dl (ix4 0 0 ⟨r, hr⟩ d) * a (ix2 n d)) * rowSt a h dl u b n d r
        + dl (ix4 0 0 ⟨r, hr⟩ d) * u (ix4 0 0 ⟨r, hr⟩ d) * b (ix4 0 0 ⟨r, hr⟩ n)
    else rowSt a h dl u b n d r

variable (a h : FVec Ideal S16x1024 .f32) (dl u : FVec Ideal S1x1x8x1024 .f32) (b c : FVec Ideal S1x1x8x16 .f32)
variable (n : Fin 16) (d : Fin 1024) (r : Fin 8)

/-- The state a trip on the first image leaves. -/
theorem tripA_fst : (tripA a h dl u b c).1 (ix2 n d) = rowSt a h dl u b n d 8 := by
  unfold tripA
  dsimp only
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  rfl

/-- The rows a trip on the first image produces. -/
theorem tripA_snd : (tripA a h dl u b c).2 (ix4 0 0 r d) = ∑ n : Fin 16, rowSt a h dl u b n d (r.val + 1) * c (ix4 0 0 r n) := by
  unfold tripA
  dsimp only
  pointwise [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31]
  match r with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

/-- The state a trip on the second image leaves. -/
theorem tripB_fst : (tripB a h dl u b c).1 (ix2 n d) = rowSt a h dl u b n d 8 := by
  unfold tripB
  dsimp only
  pointwise [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay85, k0_pay86, k0_pay87]
  rfl

/-- The rows a trip on the second image produces. -/
theorem tripB_snd : (tripB a h dl u b c).2 (ix4 0 0 r d) = ∑ n : Fin 16, rowSt a h dl u b n d (r.val + 1) * c (ix4 0 0 r n) := by
  unfold tripB
  dsimp only
  pointwise [k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay85, k0_pay86, k0_pay87]
  match r with
  | ⟨0, _⟩ => rfl
  | ⟨1, _⟩ => rfl
  | ⟨2, _⟩ => rfl
  | ⟨3, _⟩ => rfl
  | ⟨4, _⟩ => rfl
  | ⟨5, _⟩ => rfl
  | ⟨6, _⟩ => rfl
  | ⟨7, _⟩ => rfl

end Cert.KernelIdeal.Val

end
-- ==== Proof.BlockVal.lean ====
module

public import proofs.«01_k».proof.Proof.Out
public import proofs.«01_k».proof.Proof.TripVal
public import proofs.«01_k».proof.Proof.Spec
import all proofs.«01_k».proof.Proof.Out
import all proofs.«01_k».proof.Proof.Scan
import all proofs.«01_k».proof.Proof.TripVal
import all proofs.«01_k».proof.Proof.Spec
public import Idealize.ShloMosaic.Lib.Pointwise

@[expose] public section

set_option maxRecDepth 65536
set_option maxHeartbeats 1000000

noncomputable section

namespace Cert.KernelIdeal.Val

open Cert Cert.KernelIdeal Cert.KernelIdeal.Gen Cert.KernelIdeal.Body
open Idealize.ShloMosaic Idealize.ShloMosaic.TcCoe Idealize.ShloMosaic.Tactic

attribute [local irreducible] Spec.st

section

variable (a : FVec Ideal S16x1024 .f32) (U D : FVec Ideal S2x64x8x1024 .f32) (B C : FVec Ideal S2x64x8x16 .f32)
variable (h0 : FVec Ideal S16x1024 .f32 × FVec Ideal S16x1024 .f32)

/-- The first image's state after a trip. -/
theorem carry_fst (k : ℕ) (hk : k < 64) (n : Fin 16) (d : Fin 1024) : (carry a U D B C h0 (k + 1)).1 (ix2 n d) =
    rowSt a (carry a U D B C h0 k).1 (rows8 D 0 ⟨k, hk⟩) (rows8 U 0 ⟨k, hk⟩) (rows8n B 0 ⟨k, hk⟩) n d 8 := by
  rw [carry, dif_pos hk]
  dsimp only
  rw [stepA, tripA_fst]

/-- The second image's state after a trip. -/
theorem carry_snd (k : ℕ) (hk : k < 64) (n : Fin 16) (d : Fin 1024) : (carry a U D B C h0 (k + 1)).2 (ix2 n d) =
    rowSt a (carry a U D B C h0 k).2 (rows8 D 1 ⟨k, hk⟩) (rows8 U 1 ⟨k, hk⟩) (rows8n B 1 ⟨k, hk⟩) n d 8 := by
  rw [carry, dif_pos hk]
  dsimp only
  rw [stepB, tripB_fst]

/-- The first image's rows of output. -/
theorem scanOut_fst (t : Fin 64) (r : Fin 8) (d : Fin 1024) : scanOut a U D B C h0 (ix4 0 t r d) =
    ∑ n : Fin 16, rowSt a (carry a U D B C h0 t.val).1 (rows8 D 0 t) (rows8 U 0 t) (rows8n B 0 t) n d (r.val + 1) * rows8n C 0 t (ix4 0 0 r n) := by
  rw [ix4_eq_valueIdx, scanOut_zero, ← ix4_eq_valueIdx, stepA, tripA_snd]

/-- The second image's rows of output. -/
theorem scanOut_snd (t : Fin 64) (r : Fin 8) (d : Fin 1024) : scanOut a U D B C h0 (ix4 1 t r d) =
    ∑ n : Fin 16, rowSt a (carry a U D B C h0 t.val).2 (rows8 D 1 t) (rows8 U 1 t) (rows8n B 1 t) n d (r.val + 1) * rows8n C 1 t (ix4 0 0 r n) := by
  rw [ix4_eq_valueIdx, scanOut_one, ← ix4_eq_valueIdx, stepB, tripB_snd]

end

/-- The image a row block of the grid's row `bi` holds in place `g`. -/
def img (bi : Fin 4) (g : Fin 2) : Fin 8 := ⟨2 * bi.val + g.val, by omega⟩

/-- The time of row `q` of the block in the grid's column `jc`. -/
def tim (jc : Fin 8) (q : Fin 512) : Fin 4096 := ⟨512 * jc.val + q.val, by omega⟩

/-- The image of a row of the two images' rows laid one after the other. -/
abbrev im (bi : Fin 4) (R : Fin 1024) : Fin 8 := img bi ⟨R.val / 512, by omega⟩

/-- The time of such a row. -/
abbrev tm (jc : Fin 8) (R : Fin 1024) : Fin 4096 := tim jc ⟨R.val % 512, by omega⟩

/-- The row of trip `t`'s row `r` of image `g`. -/
abbrev row (g : Fin 2) (t : Fin 64) (r : Fin 8) : Fin 1024 := ⟨g.val * 512 + t.val * 8 + r.val, by omega⟩

/-- What the windows hold at a point of the grid, in the arguments' terms. -/
structure Fits (p : Spec.Args) (bi : Fin 4) (jc : Fin 8) (I : Ins Ideal) : Prop where
  x : ∀ g q k, I.x (ix3 g q k) = p.a0 (ix3 (img bi g) k (tim jc q))
  xr : ∀ (h : jc.val < 7) g k, I.xr (ix3 g 0 k) = p.a0 (ix3 (img bi g) k ⟨512 * (jc.val + 1), by omega⟩)
  wu : ∀ k d, I.wu (ix2 k d) = p.a1 (ix2 ⟨d.val, by omega⟩ k)
  wz : ∀ k d, I.wz (ix2 k d) = p.a1 (ix2 ⟨1024 + d.val, by omega⟩ k)
  bu : ∀ d, I.bu (ix2 0 d) = p.a2 (ix1 ⟨d.val, by omega⟩)
  bz : ∀ d, I.bz (ix2 0 d) = p.a2 (ix1 ⟨1024 + d.val, by omega⟩)
  w0 : ∀ d, I.w0 (ix2 0 d) = p.a3 (ix3 d 0 0)
  w1 : ∀ d, I.w1 (ix2 0 d) = p.a3 (ix3 d 0 1)
  w2 : ∀ d, I.w2 (ix2 0 d) = p.a3 (ix3 d 0 2)
  cb : ∀ d, I.cb (ix2 0 d) = p.a4 (ix1 d)
  wdtr : ∀ r d, I.wdtr (ix2 r d) = p.a5 (ix2 ⟨r.val, by omega⟩ d)
  wb : ∀ n d, I.wb (ix2 n d) = p.a5 (ix2 ⟨32 + n.val, by omega⟩ d)
  wc : ∀ n d, I.wc (ix2 n d) = p.a5 (ix2 ⟨48 + n.val, by omega⟩ d)
  wdt : ∀ r d, I.wdt (ix2 r d) = p.a6 (ix2 d r)
  dtb : ∀ d, I.dtb (ix2 0 d) = p.a7 (ix1 d)
  al : ∀ n d, I.al (ix2 n d) = p.a8 (ix2 d n)
  dr : ∀ d, I.dr (ix2 0 d) = p.a9 (ix1 d)
  wo : ∀ d o, I.wo (ix2 d o) = p.a10 (ix2 o d)
  bo : ∀ o, I.bo (ix2 0 o) = p.a11 (ix1 o)

/-- The pattern of the number two. -/
theorem ofBits_two : Ideal.ofBits .f32 0x40000000#32 = 2 := by
  rw [show (2 : EReal) = ((2 : ℝ) : EReal) by norm_cast]
  simp [Ideal.ofBits, Ideal.ieee, -EReal.coe_mul]; norm_num

/-- Twice a number is the number added to itself. -/
theorem two_mul_self (x : EReal) : 2 * x = x + x := by
  rw [show (2 : EReal) = 1 + 1 by norm_num]
  induction x <;> simp [EReal.right_distrib_of_nonneg]

/-- A selection on whether a column is the first. -/
theorem select_zero (jc : Fin 8) (x y : EReal) :
    Scalar.select (Scalar.cmpi CmpIPredicate.eq (BitVec.ofNat 32 jc.val) 0#32) x y = if jc.val = 0 then x else y := by
  fin_cases jc <;> rfl

/-- A selection on whether a column is the last. -/
theorem select_seven (jc : Fin 8) (x y : EReal) :
    Scalar.select (Scalar.cmpi CmpIPredicate.eq (BitVec.ofNat 32 jc.val) 7#32) x y = if jc.val = 7 then x else y := by
  fin_cases jc <;> rfl

variable {p : Spec.Args} {bi : Fin 4} {jc : Fin 8} {I : Ins Ideal} (f : Fits p bi jc I)
variable (R : Fin 1024) (g : Fin 2) (t : Fin 64) (r : Fin 8) (d : Fin 1024) (n : Fin 16) (q : Fin 512) (o : Fin 512)
include f

/-- The block's projection. -/
theorem uRaw_val : uRaw I (ix2 R d) = Spec.u p (im bi R) d (tm jc R) := by
  pointwise [uRaw, k0_pay63, k0_pay61, k0_pay62, f.x, f.wu, f.bu]
  rfl

/-- The block's gate. -/
theorem gate_val : (k0_pay64 (F := Ideal) I.x I.wz I.bz (ix2 R d) : EReal) = Spec.silu (Spec.z p (im bi R) d (tm jc R)) := by
  pointwise [k0_pay64, k0_pay61, k0_pay62, f.x, f.wz, f.bz, zero_sub]
  rfl

/-- The projection of the row after the block. -/
theorem tail_val (h : jc.val < 7) :
    ∑ k, I.xr (ix3 g 0 k) * I.wu (ix2 k d) + I.bu (ix2 0 d) = Spec.u p (img bi g) d ⟨512 * (jc.val + 1), by omega⟩ := by
  simp only [f.xr h, f.wu, f.bu]
  rfl

/-- The row after each row, before it is told which time it is. -/
theorem uNext_raw : uNext (BitVec.ofNat 32 jc.val) I (ix2 R d) =
    if h : R.val < 511 then uRaw I (ix2 ⟨1 + R.val, by omega⟩ d)
    else if h1 : R.val < 512 then (if jc.val = 7 then 0 else ∑ k, I.xr (ix3 0 0 k) * I.wu (ix2 k d) + I.bu (ix2 0 d))
    else if h2 : R.val < 1023 then uRaw I (ix2 ⟨1 + R.val, by omega⟩ d)
    else (if jc.val = 7 then 0 else ∑ k, I.xr (ix3 1 0 k) * I.wu (ix2 k d) + I.bu (ix2 0 d)) := by
  have hR := R.isLt
  by_cases h : R.val < 511
  · rw [dif_pos h]
    pointwise [uNext, k0_pay70, k0_pay65, k0_pay66, k0_pay67, k0_pay68]
    rw [dif_pos h]
  rw [dif_neg h]
  by_cases h1 : R.val < 512
  · rw [dif_pos h1]
    obtain rfl : R = ⟨511, by decide⟩ := Fin.ext (by simp only; omega)
    pointwise [uNext, k0_pay70, k0_pay65, k0_pay66, k0_pay67, k0_pay68, select_seven]
    done
  rw [dif_neg h1]
  by_cases h2 : R.val < 1023
  · rw [dif_pos h2]
    pointwise [uNext, k0_pay70, k0_pay65, k0_pay66, k0_pay67, k0_pay68]
    rw [dif_neg (by omega), dif_neg (by omega), dif_pos (by omega)]
    refine congrArg (fun x => uRaw I (ix2 x d)) (Fin.ext ?_)
    simp only
    omega
  · rw [dif_neg h2]
    obtain rfl : R = ⟨1023, by decide⟩ := Fin.ext (by simp only; omega)
    pointwise [uNext, k0_pay70, k0_pay65, k0_pay66, k0_pay67, k0_pay68, select_seven]
    done

/-- The row after each row. -/
theorem uNext_val : uNext (BitVec.ofNat 32 jc.val) I (ix2 R d) = Spec.after p (im bi R) d (tm jc R) := by
  rw [uNext_raw f]
  simp only [uRaw_val f]
  unfold Spec.after
  have hR := R.isLt
  have hj := jc.isLt
  have e : (tm jc R).val = 512 * jc.val + R.val % 512 := rfl
  split_ifs <;> first
    | rfl
    | (exfalso; omega)
    | (refine congrArg₂ (fun b l => Spec.u p b d l) (Fin.ext ?_) (Fin.ext ?_) <;> simp only [im, tm, img, tim] <;> omega)
    | (rw [tail_val f _ _ (by omega)]
       refine congrArg₂ (fun b l => Spec.u p b d l) (Fin.ext ?_) (Fin.ext ?_) <;> simp only [im, tm, img, tim] <;> omega)

/-- The first two terms of the convolution, before the row is told which time it is. -/
theorem uTwo_raw (U : FVec Ideal S2x1024 .f32) : uTwo (BitVec.ofNat 32 jc.val) I U (ix2 R d) =
    (if h : R.val < 1 then (if jc.val = 0 then 0 else U (ix2 0 d))
    else if h1 : R.val < 512 then uRaw I (ix2 ⟨R.val - 1, by omega⟩ d)
    else if h2 : R.val < 513 then (if jc.val = 0 then 0 else U (ix2 1 d))
    else uRaw I (ix2 ⟨R.val - 1, by omega⟩ d)) * p.a3 (ix3 d 0 0) + uRaw I (ix2 R d) * p.a3 (ix3 d 0 1) := by
  have hR := R.isLt
  by_cases h : R.val < 1
  · rw [dif_pos h]
    obtain rfl : R = ⟨0, by decide⟩ := Fin.ext (by simp only; omega)
    pointwise [uTwo, k0_pay71, k0_pay69, k0_pay67, k0_pay68, f.w0, f.w1, select_zero]
    done
  rw [dif_neg h]
  by_cases h1 : R.val < 512
  · rw [dif_pos h1]
    pointwise [uTwo, k0_pay71, k0_pay69, k0_pay67, k0_pay68, f.w0, f.w1]
    rw [dif_neg h, dif_pos (by omega)]
  rw [dif_neg h1]
  by_cases h2 : R.val < 513
  · rw [dif_pos h2]
    obtain rfl : R = ⟨512, by decide⟩ := Fin.ext (by simp only; omega)
    pointwise [uTwo, k0_pay71, k0_pay69, k0_pay67, k0_pay68, f.w0, f.w1, select_zero]
    done
  · rw [dif_neg h2]
    pointwise [uTwo, k0_pay71, k0_pay69, k0_pay67, k0_pay68, f.w0, f.w1]
    rw [dif_neg h, dif_neg (by omega), dif_neg (by omega)]
    refine congrArg (fun x => uRaw I (ix2 x d) * p.a3 (ix3 d 0 0) + uRaw I (ix2 R d) * p.a3 (ix3 d 0 1)) (Fin.ext ?_)
    simp only
    omega

/-- The first two terms of the convolution. -/
theorem uTwo_val (U : FVec Ideal S2x1024 .f32)
    (hU : ∀ (h : 0 < jc.val) g d, U (ix2 g d) = Spec.u p (img bi g) d ⟨512 * jc.val - 1, by omega⟩) :
    uTwo (BitVec.ofNat 32 jc.val) I U (ix2 R d) =
      Spec.before p (im bi R) d (tm jc R) * p.a3 (ix3 d 0 0) + Spec.u p (im bi R) d (tm jc R) * p.a3 (ix3 d 0 1) := by
  rw [uTwo_raw f]
  simp only [uRaw_val f]
  refine congrArg (fun a => a * p.a3 (ix3 d 0 0) + Spec.u p (im bi R) d (tm jc R) * p.a3 (ix3 d 0 1)) ?_
  unfold Spec.before
  have hR := R.isLt
  have hj := jc.isLt
  have e : (tm jc R).val = 512 * jc.val + R.val % 512 := rfl
  split_ifs <;> first
    | rfl
    | (exfalso; omega)
    | (refine congrArg₂ (fun b l => Spec.u p b d l) (Fin.ext ?_) (Fin.ext ?_) <;> simp only [im, tm, img, tim] <;> omega)
    | (rw [hU (by omega)]
       refine congrArg₂ (fun b l => Spec.u p b d l) (Fin.ext ?_) (Fin.ext ?_) <;> simp only [im, tm, img, tim] <;> omega)

section

variable {U : FVec Ideal S2x1024 .f32}
variable (hU : ∀ (h : 0 < jc.val) g d, U (ix2 g d) = Spec.u p (img bi g) d ⟨512 * jc.val - 1, by omega⟩)
include hU

/-- The scan's input, row by row. -/
theorem v_val : (k0_pay73 (F := Ideal) (uNext (BitVec.ofNat 32 jc.val) I) (uTwo (BitVec.ofNat 32 jc.val) I U) (wThree I) I.cb (ix2 R d) : EReal)
    = Spec.v p (im bi R) d (tm jc R) := by
  pointwise [k0_pay73, wThree, k0_pay72, uNext_val f, uTwo_val f R d U hU, f.w2, f.cb, zero_sub]
  rfl

/-- The scan's input. -/
theorem scanU_val : scanU (BitVec.ofNat 32 jc.val) I U (ix4 g t r d) = Spec.v p (im bi (row g t r)) d (tm jc (row g t r)) := by
  pointwise [scanU, k0_pay74]
  exact v_val f (row g t r) d hU

/-- The low-rank factor of the step sizes. -/
theorem rank_val (x : Fin 32) : (k0_pay76 (F := Ideal) (uNext (BitVec.ofNat 32 jc.val) I) (uTwo (BitVec.ofNat 32 jc.val) I U) (wThree I) I.cb I.wdtr (ix2 R x) : EReal)
    = Spec.xd p (im bi R) ⟨x.val, by omega⟩ (tm jc R) := by
  pointwise [k0_pay76, k0_pay75, f.wdtr, fun d => v_val f R d hU]
  rfl

/-- The step sizes. -/
theorem scanD_val : scanD (BitVec.ofNat 32 jc.val) I U (ix4 g t r d) = Spec.dl p (im bi (row g t r)) d (tm jc (row g t r)) := by
  pointwise [scanD, k0_pay80, f.wdt, f.dtb, zero_sub, ofBits_two, two_mul_self]
  have e := rank_val f (row g t r) hU
  simp only [e, ← add_assoc]
  rfl

/-- The weights into the state. -/
theorem scanB_val : scanB (BitVec.ofNat 32 jc.val) I U (ix4 g t r n) = Spec.xd p (im bi (row g t r)) ⟨32 + n.val, by omega⟩ (tm jc (row g t r)) := by
  pointwise [scanB, k0_pay77, k0_pay75, f.wb, fun d => v_val f (row g t r) d hU]
  rfl

/-- The weights out of the state. -/
theorem scanC_val : scanC (BitVec.ofNat 32 jc.val) I U (ix4 g t r n) = Spec.xd p (im bi (row g t r)) ⟨48 + n.val, by omega⟩ (tm jc (row g t r)) := by
  pointwise [scanC, k0_pay79, k0_pay78, k0_pay75, f.wc, fun d => v_val f (row g t r) d hU]
  rfl

end

/-- The decay rates. -/
theorem rate_val : (k0_pay81 (F := Ideal) I.al (ix2 n d) : EReal) = Spec.rate p d n := by
  pointwise [k0_pay81, f.al, zero_sub]
  rfl

section

variable {U : FVec Ideal S2x1024 .f32}
variable (hU : ∀ (h : 0 < jc.val) g d, U (ix2 g d) = Spec.u p (img bi g) d ⟨512 * jc.val - 1, by omega⟩)
include hU

/-- The image of a trip's row. -/
theorem im_row : im bi (row g t r) = img bi g := by
  refine Fin.ext ?_
  simp only [im, img, row]
  omega

/-- Within a trip the state follows the recurrence. -/
theorem rowSt_val (h : FVec Ideal S16x1024 .f32) (hh : ∀ n d, h (ix2 n d) = Spec.st p (img bi g) d n (512 * jc.val + 8 * t.val)) :
    ∀ k, k ≤ 8 → rowSt (k0_pay81 (F := Ideal) I.al) h (rows8 (scanD (BitVec.ofNat 32 jc.val) I U) g t)
      (rows8 (scanU (BitVec.ofNat 32 jc.val) I U) g t) (rows8n (scanB (BitVec.ofNat 32 jc.val) I U) g t) n d k
        = Spec.st p (img bi g) d n (512 * jc.val + 8 * t.val + k)
  | 0, _ => hh n d
  | k + 1, hk => by
    have hj := jc.isLt
    have ht := t.isLt
    have e : tm jc (row g t ⟨k, hk⟩) = ⟨512 * jc.val + 8 * t.val + k, by omega⟩ := by
      refine Fin.ext ?_
      simp only [tm, tim, row]
      omega
    have e1 := scanD_val f g t ⟨k, hk⟩ d hU
    have e2 := scanU_val f g t ⟨k, hk⟩ d hU
    have e3 := scanB_val f g t ⟨k, hk⟩ n hU
    rw [im_row f g t _ hU, e] at e1 e2 e3
    have hs := Spec.st_succ p (img bi g) d n ⟨512 * jc.val + 8 * t.val + k, by omega⟩
    refine Eq.trans ?_ hs.symm
    rw [rowSt, dif_pos (show k < 8 from hk), rowSt_val h hh k (by omega), rate_val f]
    show Ideal.exp (scanD (BitVec.ofNat 32 jc.val) I U (ix4 g t ⟨k, hk⟩ d) * _) * _
      + scanD (BitVec.ofNat 32 jc.val) I U (ix4 g t ⟨k, hk⟩ d) * scanU (BitVec.ofNat 32 jc.val) I U (ix4 g t ⟨k, hk⟩ d) * scanB (BitVec.ofNat 32 jc.val) I U (ix4 g t ⟨k, hk⟩ n) = _
    rw [e1, e2, e3]
    rfl

variable {H : FVec Ideal S2x16x1024 .f32} (hH : ∀ g d n, H (ix3 g n d) = Spec.st p (img bi g) d n (512 * jc.val))
include hH

/-- The states before each trip follow the recurrence. -/
theorem states_val : ∀ k, k ≤ 64 →
    (∀ n d, (states (BitVec.ofNat 32 jc.val) I H U k).1 (ix2 n d) = Spec.st p (img bi 0) d n (512 * jc.val + 8 * k))
    ∧ ∀ n d, (states (BitVec.ofNat 32 jc.val) I H U k).2 (ix2 n d) = Spec.st p (img bi 1) d n (512 * jc.val + 8 * k)
  | 0, _ => by
    constructor
    · intro n d
      show (k0_pay83 (F := Ideal) (plane H 0) (ix2 n d) : EReal) = _
      pointwise [k0_pay83]
      exact (congrArg H (ix3_eq_valueIdx 0 n d).symm).trans (hH 0 d n)
    · intro n d
      show (k0_pay84 (F := Ideal) (plane H 1) (ix2 n d) : EReal) = _
      pointwise [k0_pay84]
      exact (congrArg H (ix3_eq_valueIdx 1 n d).symm).trans (hH 1 d n)
  | k + 1, hk => by
    have ih := states_val k (by omega)
    constructor
    · intro n d
      unfold states
      rw [carry_fst _ _ _ _ _ _ k hk]
      exact rowSt_val f 0 ⟨k, hk⟩ d n hU _ ih.1 8 le_rfl
    · intro n d
      unfold states
      rw [carry_snd _ _ _ _ _ _ k hk]
      exact rowSt_val f 1 ⟨k, hk⟩ d n hU _ ih.2 8 le_rfl

/-- The rows of output. -/
theorem scanY_val : scanY (BitVec.ofNat 32 jc.val) I H U (ix4 g t r d) =
    ∑ n : Fin 16, Spec.st p (im bi (row g t r)) d n ((tm jc (row g t r)).val + 1) * Spec.xd p (im bi (row g t r)) ⟨48 + n.val, by omega⟩ (tm jc (row g t r)) := by
  have ih := states_val f hU hH t.val (by omega)
  have e : (tm jc (row g t r)).val + 1 = 512 * jc.val + 8 * t.val + (r.val + 1) := by
    simp only [tm, tim, row]
    omega
  have eC : ∀ n, rows8n (scanC (BitVec.ofNat 32 jc.val) I U) g t (ix4 0 0 r n) = _ := fun n => scanC_val f g t r n hU
  simp only [im_row f g t r hU] at eC
  simp only [e, im_row f g t r hU, ← eC]
  unfold scanY
  obtain rfl | rfl : g = 0 ∨ g = 1 := by omega
  · rw [scanOut_fst]
    refine Finset.sum_congr rfl fun n _ => congrArg (· * _) ?_
    exact rowSt_val f 0 t d n hU _ ih.1 (r.val + 1) (by omega)
  · rw [scanOut_snd]
    refine Finset.sum_congr rfl fun n _ => congrArg (· * _) ?_
    exact rowSt_val f 1 t d n hU _ ih.2 (r.val + 1) (by omega)

/-- What the body stores into its output block. -/
theorem bodyOut_val : bodyOut (BitVec.ofNat 32 jc.val) I H U (ix3 g q o) = Spec.out p (img bi g) o (tim jc q) := by
  pointwise [bodyOut, k0_pay1, k0_pay61, k0_pay90, f.x, f.wo, f.bo, f.dr, fun R d => gate_val f R d, fun g t r d => scanU_val f g t r d hU,
    fun g t r d => scanY_val f g t r d hU hH]
  have hg := g.isLt
  have hq := q.isLt
  have e1 : row g ⟨(g.val * 512 + q.val) / 8 % 64, by omega⟩ ⟨(g.val * 512 + q.val) % 8, by omega⟩ = ⟨g.val * 512 + q.val, by omega⟩ := by
    refine Fin.ext ?_
    simp only [row]
    omega
  have e2 : im bi ⟨g.val * 512 + q.val, by omega⟩ = img bi g := by
    refine Fin.ext ?_
    simp only [im, img]
    omega
  have e3 : tm jc ⟨g.val * 512 + q.val, by omega⟩ = tim jc q := by
    refine Fin.ext ?_
    simp only [tm, tim]
    omega
  simp only [e1, e2, e3]
  rfl

/-- The states the body leaves. -/
theorem bodyH_val : bodyH (BitVec.ofNat 32 jc.val) I H U (ix3 g n d) = Spec.st p (img bi g) d n (512 * (jc.val + 1)) := by
  have ih := states_val f hU hH 64 le_rfl
  rw [show 512 * (jc.val + 1) = 512 * jc.val + 8 * 64 by omega]
  match g with
  | ⟨0, _⟩ => pointwise [bodyH, k0_pay88, k0_pay89]; exact ih.1 n d
  | ⟨1, _⟩ => pointwise [bodyH, k0_pay88, k0_pay89]; exact ih.2 n d

end

/-- The rows of the projection the body leaves. -/
theorem bodyU_val : bodyU I (ix2 g d) = Spec.u p (img bi g) d ⟨512 * (jc.val + 1) - 1, by omega⟩ := by
  pointwise [bodyU, k0_pay69]
  simp only [uRaw_val f]
  have hg := g.isLt
  split_ifs <;>
    (refine congrArg₂ (fun b l => Spec.u p b d l) (Fin.ext ?_) (Fin.ext ?_) <;> simp only [im, tm, img, tim] <;> omega)

end Cert.KernelIdeal.Val

end
-- ==== Proof.Windows.lean ====
module

public import proofs.«01_k».proof.Proof.Host
public import proofs.«01_k».proof.Proof.BlockVal
import all proofs.«01_k».proof.Proof.Region
import all proofs.«01_k».proof.Proof.BlockVal
import all proofs.«01_k».proof.Proof.Out

/-! # What the windows hold at a point

The block of each input window at a point of the grid, in the arguments' terms. -/

@[expose] public section

set_option maxRecDepth 65536
set_option maxHeartbeats 1000000

noncomputable section

namespace Cert.KernelIdeal.Val

open Cert Cert.KernelIdeal Cert.KernelIdeal.Gen Cert.KernelIdeal.Body
open Idealize.ShloMosaic Idealize.ShloMosaic.TcCoe Idealize.ShloMosaic.Tactic

/-- The point's column. -/
theorem coord_one : ∀ t : Fin grid0.N, (grid0.coords t 1).val = t.val % 8 := by decide +kernel

/-- The place of the first window's block. -/
theorem index_x : ∀ t : Fin grid0.N, win0_0.index t 0 = t.val / 8 ∧ win0_0.index t 1 = t.val % 8 ∧ win0_0.index t 2 = 0 := by decide +kernel

/-- The place of the second window's block: the rows after the first's, while there are any. -/
theorem index_xr : ∀ t : Fin grid0.N, win0_1.index t 0 = t.val / 8 ∧ (t.val % 8 < 7 → win0_1.index t 1 = (t.val % 8 + 1) * 64) ∧ win0_1.index t 2 = 0 := by
  decide +kernel

/-- The place of the output's block. -/
theorem index_out : ∀ t : Fin grid0.N, win0_17.index t 0 = t.val / 8 ∧ win0_17.index t 1 = t.val % 8 ∧ win0_17.index t 2 = 0 := by decide +kernel

/-- The state starts afresh in the first column only. -/
theorem firstJ_iff : ∀ t : Fin grid0.N, firstJ (grid0.coords t) ↔ t.val % 8 = 0 := by decide +kernel

/-- The grid's row of a point. -/
def gRow (t : Fin cfg0.N) : Fin 4 := ⟨t.val / 8, by have h : t.val < 32 := t.isLt; omega⟩

/-- The grid's column of a point. -/
def gCol (t : Fin cfg0.N) : Fin 8 := ⟨t.val % 8, by omega⟩

variable (m : (ℓ : Loc nD τ sig) → Buf (Elt Ideal) ℓ) (c : Dev nD) (t : Fin cfg0.N)

/-- The first window's block: 512 times of two images. -/
theorem block_x (g : Fin 2) (q k : Fin 512) : (iblk (F := Ideal) m c 0 t : FVec Ideal S2x512x512 .f32) (ix3 g q k)
    = (V (F := Ideal) m c main_v0 : FVec Ideal S8x4096x512 .f32) (ix3 (img (gRow t) g) (tim (gCol t) q) k) := by
  have hi := index_x t
  unfold iblk
  rw [View.read_apply]
  show V m c main_v0 _ = V m c main_v0 _
  congr 1
  funext a
  apply Fin.ext
  match a with
  | ⟨0, _⟩ => show win0_0.index t 0 * 2 + 1 * g.val = 2 * (t.val / 8) + g.val; rw [hi.1]; omega
  | ⟨1, _⟩ => show win0_0.index t 1 * 512 + 1 * q.val = 512 * (t.val % 8) + q.val; rw [hi.2.1]; omega
  | ⟨2, _⟩ => show win0_0.index t 2 * 512 + 1 * k.val = k.val; rw [hi.2.2]; omega

/-- The second window's first row: the time after the block. -/
theorem block_xr (h : (gCol t).val < 7) (g : Fin 2) (k : Fin 512) : (iblk (F := Ideal) m c 1 t : FVec Ideal S2x8x512 .f32) (ix3 g 0 k)
    = (V (F := Ideal) m c main_v0 : FVec Ideal S8x4096x512 .f32) (ix3 (img (gRow t) g) ⟨512 * ((gCol t).val + 1), by omega⟩ k) := by
  have hi := index_xr t
  unfold iblk
  rw [View.read_apply]
  show V m c main_v0 _ = V m c main_v0 _
  congr 1
  funext a
  apply Fin.ext
  match a with
  | ⟨0, _⟩ => show win0_1.index t 0 * 2 + 1 * g.val = 2 * (t.val / 8) + g.val; rw [hi.1]; omega
  | ⟨1, _⟩ => show win0_1.index t 1 * 8 + 1 * 0 = 512 * (t.val % 8 + 1); rw [hi.2.1 h]; omega
  | ⟨2, _⟩ => show win0_1.index t 2 * 512 + 1 * k.val = k.val; rw [hi.2.2]; omega

/-- An index shifted by no blocks is itself. -/
theorem unshifted {s0 s1 : ℕ} (i y : (⟨2, ![s0, s1]⟩ : Shape).Idx) (h0 : (i 0).val = 0 * s0 + 1 * (y 0).val)
    (h1 : (i 1).val = 0 * s1 + 1 * (y 1).val) : i = y := by
  funext a
  apply Fin.ext
  match a with
  | ⟨0, _⟩ => exact h0.trans (by simp)
  | ⟨1, _⟩ => exact h1.trans (by simp)

/-- What the windows hold at a point is what the value of a block asks for. -/
theorem fits : Fits (kargs m c) (gRow t) (gCol t) (insAt m c t) where
  x g q k := (block_x m c t g q k).trans (host_v0 m c k _ _)
  xr h g k := (block_xr m c t h g k).trans (host_v0 m c k _ _)
  wu k d := (congrArg (V (F := Ideal) m c main_v3) (unshifted _ (ix2 k d) rfl rfl)).trans (host_v3 m c k d)
  wz k d := (congrArg (V (F := Ideal) m c main_v6) (unshifted _ (ix2 k d) rfl rfl)).trans (host_v6 m c k d)
  bu d := (congrArg (V (F := Ideal) m c main_v8) (unshifted _ (ix2 0 d) rfl rfl)).trans (host_v8 m c d)
  bz d := (congrArg (V (F := Ideal) m c main_v10) (unshifted _ (ix2 0 d) rfl rfl)).trans (host_v10 m c d)
  w0 d := (congrArg (V (F := Ideal) m c main_v12) (unshifted _ (ix2 0 d) rfl rfl)).trans (host_v12 m c d 0)
  w1 d := (congrArg (V (F := Ideal) m c main_v12) (unshifted _ (ix2 1 d) rfl rfl)).trans (host_v12 m c d 1)
  w2 d := (congrArg (V (F := Ideal) m c main_v12) (unshifted _ (ix2 2 d) rfl rfl)).trans (host_v12 m c d 2)
  cb d := (congrArg (V (F := Ideal) m c main_v13) (unshifted _ (ix2 0 d) rfl rfl)).trans (host_v13 m c d)
  wdtr r d := (congrArg (V (F := Ideal) m c main_v15) (unshifted _ (ix2 r d) rfl rfl)).trans (host_v15 m c d r)
  wb n d := (congrArg (V (F := Ideal) m c main_v17) (unshifted _ (ix2 n d) rfl rfl)).trans (host_v17 m c d n)
  wc n d := (congrArg (V (F := Ideal) m c main_v19) (unshifted _ (ix2 n d) rfl rfl)).trans (host_v19 m c d n)
  wdt r d := (congrArg (V (F := Ideal) m c main_v21) (unshifted _ (ix2 r d) rfl rfl)).trans (host_v21 m c d r)
  dtb d := (congrArg (V (F := Ideal) m c main_v22) (unshifted _ (ix2 0 d) rfl rfl)).trans (host_v22 m c d)
  al n d := (congrArg (V (F := Ideal) m c main_v23) (unshifted _ (ix2 n d) rfl rfl)).trans (host_v23 m c d n)
  dr d := (congrArg (V (F := Ideal) m c main_v24) (unshifted _ (ix2 0 d) rfl rfl)).trans (host_v24 m c d)
  wo d o := (congrArg (V (F := Ideal) m c main_v26) (unshifted _ (ix2 d o) rfl rfl)).trans (host_v26 m c o d)
  bo o := (congrArg (V (F := Ideal) m c main_v27) (unshifted _ (ix2 0 o) rfl rfl)).trans (host_v27 m c o)

end Cert.KernelIdeal.Val

end
-- ==== Proof.RefVal.lean ====
module

public import proofs.«01_k».proof.Proof.RefRun
public import proofs.«01_k».proof.Proof.Spec

@[expose] public section

set_option maxRecDepth 8192

noncomputable section

/-! The reference's values, element by element. -/

namespace Cert.ReferenceIdeal.Val

open Idealize.ShloMosaic
open Cert
open Cert.ReferenceIdeal Cert.ReferenceIdeal.Gen Cert.ReferenceIdeal.Step

variable (p : Spec.Args)

/-- The input projection. -/
theorem v4 (b : Fin 8) (o : Fin 2048) (l : Fin 4096) :
    A_main_v4 (F := Ideal) p.a0 p.a1 p.a2 p.a3 p.a4 p.a5 p.a6 p.a7 p.a8 (ix3 b o l) = Spec.inp p b o l := by
  pointwise [A_main_v4, A_main_v3, A_main_v2, A_main_v1, A_main_v0]
  rfl

/-- Its first half. -/
theorem v5 (b : Fin 8) (o : Fin 1024) (l : Fin 4096) :
    A_main_v5 (F := Ideal) p.a0 p.a1 p.a2 p.a3 p.a4 p.a5 p.a6 p.a7 p.a8 (ix3 b o l) = Spec.u p b o l := by
  pointwise [A_main_v5, v4]
  rfl

/-- Its second half. -/
theorem v6 (b : Fin 8) (o : Fin 1024) (l : Fin 4096) :
    A_main_v6 (F := Ideal) p.a0 p.a1 p.a2 p.a3 p.a4 p.a5 p.a6 p.a7 p.a8 (ix3 b o l) = Spec.z p b o l := by
  pointwise [A_main_v6, v4]
  rfl

/-- The value one step before. -/
theorem v9 (b : Fin 8) (o : Fin 1024) (l : Fin 4096) :
    A_main_v9 (F := Ideal) p.a0 p.a1 p.a2 p.a3 p.a4 p.a5 p.a6 p.a7 p.a8 (ix3 b o l) = Spec.before p b o l := by
  pointwise [A_main_v9, A_main_v8, K_main_v7, K_main_cst, v5]
  rfl

/-- The value one step after. -/
theorem v11 (b : Fin 8) (o : Fin 1024) (l : Fin 4096) :
    A_main_v11 (F := Ideal) p.a0 p.a1 p.a2 p.a3 p.a4 p.a5 p.a6 p.a7 p.a8 (ix3 b o l) = Spec.after p b o l := by
  pointwise [A_main_v11, A_main_v10, K_main_v7, K_main_cst, v5]
  rfl

/-- The convolution. -/
theorem v31 (b : Fin 8) (o : Fin 1024) (l : Fin 4096) :
    A_main_v31 (F := Ideal) p.a0 p.a1 p.a2 p.a3 p.a4 p.a5 p.a6 p.a7 p.a8 (ix3 b o l) = Spec.conv p b o l := by
  pointwise [A_main_v31, A_main_v30, A_main_v29, A_main_v28, A_main_v27, A_main_v26, A_main_v25, A_main_v24, A_main_v23, A_main_v22, A_main_v21, A_main_v20, A_main_v19, A_main_v18, A_main_v17, A_main_v16, A_main_v15, A_main_v14, A_main_v13, A_main_v12, v9, v5, v11]
  rfl

/-- The scan's input. -/
theorem v32 (b : Fin 8) (o : Fin 1024) (l : Fin 4096) :
    A_main_v32 (F := Ideal) p.a0 p.a1 p.a2 p.a3 p.a4 p.a5 p.a6 p.a7 p.a8 (ix3 b o l) = Spec.v p b o l := by
  pointwise [A_main_v32, A_main_call0_v5, A_main_call0_v3, A_main_call0_v1, A_main_call0_v0, K_main_call0_v4, K_main_call0_v2, K_main_call0_cst, K_main_call0_cst_0, v31]
  rfl

/-- The projection of the scan's input. -/
theorem v34 (b : Fin 8) (o : Fin 64) (l : Fin 4096) :
    A_main_v34 (F := Ideal) p.a0 p.a1 p.a2 p.a3 p.a4 p.a5 p.a6 p.a7 p.a8 (ix3 b o l) = Spec.xd p b o l := by
  pointwise [A_main_v34, A_main_v33, v32]
  rfl

/-- The step sizes. -/
theorem v48 (b : Fin 8) (o : Fin 1024) (l : Fin 4096) :
    A_main_v48 (F := Ideal) p.a0 p.a1 p.a2 p.a3 p.a4 p.a5 p.a6 p.a7 p.a8 (ix3 b o l) = Spec.dl p b o l := by
  pointwise [A_main_v48, A_main_call1_v11, A_main_call1_v10, A_main_call1_v9, A_main_call1_v8, A_main_call1_v7, A_main_call1_v6, A_main_call1_v4, A_main_call1_v3, A_main_call1_v1, K_main_call1_v0, K_main_call1_v2, K_main_call1_v5, K_main_call1_cst]
  rw [if_neg (fun h => h rfl)]
  have e : A_main_v47 (F := Ideal) p.a0 p.a1 p.a2 p.a3 p.a4 p.a5 p.a6 p.a7 p.a8 (ix3 b o l) = ∑ r : Fin 32, Spec.xd p b ⟨r.val, by omega⟩ l * p.a6 (ix2 o r) + p.a7 (ix1 o) + p.a7 (ix1 o) := by
    pointwise [A_main_v47, A_main_v46, A_main_v45, A_main_v42, A_main_v41, A_main_v40, A_main_v39, A_main_v38, A_main_v35, v34]
    try rfl
  rw [e]
  rfl

/-- The step sizes, by time. -/
theorem v49 (b : Fin 8) (d : Fin 1024) (l : Fin 4096) :
    A_main_v49 (F := Ideal) p.a0 p.a1 p.a2 p.a3 p.a4 p.a5 p.a6 p.a7 p.a8 (ix3 l b d) = Spec.dl p b d l := by
  pointwise [A_main_v49, v48]

/-- The scan's input, by time. -/
theorem v50 (b : Fin 8) (d : Fin 1024) (l : Fin 4096) :
    A_main_v50 (F := Ideal) p.a0 p.a1 p.a2 p.a3 p.a4 p.a5 p.a6 p.a7 p.a8 (ix3 l b d) = Spec.v p b d l := by
  pointwise [A_main_v50, v32]

/-- The weights into the state, by time. -/
theorem v51 (b : Fin 8) (n : Fin 16) (l : Fin 4096) :
    A_main_v51 (F := Ideal) p.a0 p.a1 p.a2 p.a3 p.a4 p.a5 p.a6 p.a7 p.a8 (ix3 l b n) = Spec.xd p b ⟨32 + n.val, by omega⟩ l := by
  pointwise [A_main_v51, A_main_v36, v34]

/-- The weights out of the state, by time. -/
theorem v52 (b : Fin 8) (n : Fin 16) (l : Fin 4096) :
    A_main_v52 (F := Ideal) p.a0 p.a1 p.a2 p.a3 p.a4 p.a5 p.a6 p.a7 p.a8 (ix3 l b n) = Spec.xd p b ⟨48 + n.val, by omega⟩ l := by
  pointwise [A_main_v52, A_main_v37, v34]

/-- The gate, by time. -/
theorem v54 (b : Fin 8) (d : Fin 1024) (l : Fin 4096) :
    A_main_v54 (F := Ideal) p.a0 p.a1 p.a2 p.a3 p.a4 p.a5 p.a6 p.a7 p.a8 (ix3 l b d) = Spec.silu (Spec.z p b d l) := by
  pointwise [A_main_v54, A_main_v53, A_main_call2_v5, A_main_call2_v3, A_main_call2_v1, A_main_call2_v0, K_main_call2_v4, K_main_call2_v2, K_main_call2_cst, K_main_call2_cst_0, v6]
  rfl

/-- The decay rates. -/
theorem v44 (d : Fin 1024) (n : Fin 16) :
    A_main_v44 (F := Ideal) p.a0 p.a1 p.a2 p.a3 p.a4 p.a5 p.a6 p.a7 p.a8 (ix2 d n) = Spec.rate p d n := by
  pointwise [A_main_v44, A_main_v43]
  rfl

/-- Where a trip's slice of time lies. -/
theorem toInt_time (j : ℕ) (hj : j < 4096) : (BitVec.ofNat 32 j).toInt = j := by
  rw [BitVec.toInt_eq_toNat_of_lt] <;> simp <;> omega

/-- Where trip `j` starts its slices. -/
abbrev starts (j : ℕ) : Fin 3 → ℤ := fun k =>
  BitVec.toInt ((![constantI S_ 32 (BitVec.ofNat 32 j), constantI S_ 32 0#32, constantI S_ 32 0#32] : Fin 3 → IVec S_ 32) k (Shape.Idx.first h_S_))

/-- A trip's slice of a wide array starts at its time. -/
theorem wide0 (j : ℕ) (hj : j < 4096) : Host.clampedStart S4096x8x1024 S1x8x1024 rfl (starts j) 0 = j :=
  Host.clampedStart_of_le _ _ _ j (toInt_time j hj) (by show j + 1 ≤ 4096; omega)

/-- It takes every image. -/
theorem wide1 (j : ℕ) : Host.clampedStart S4096x8x1024 S1x8x1024 rfl (starts j) 1 = 0 :=
  Host.clampedStart_of_le _ _ _ 0 rfl (by decide)

/-- It takes every channel. -/
theorem wide2 (j : ℕ) : Host.clampedStart S4096x8x1024 S1x8x1024 rfl (starts j) 2 = 0 :=
  Host.clampedStart_of_le _ _ _ 0 rfl (by decide)

/-- A trip's slice of a narrow array starts at its time. -/
theorem narrow0 (j : ℕ) (hj : j < 4096) : Host.clampedStart S4096x8x16 S1x8x16 rfl (starts j) 0 = j :=
  Host.clampedStart_of_le _ _ _ j (toInt_time j hj) (by show j + 1 ≤ 4096; omega)

/-- It takes every image. -/
theorem narrow1 (j : ℕ) : Host.clampedStart S4096x8x16 S1x8x16 rfl (starts j) 1 = 0 :=
  Host.clampedStart_of_le _ _ _ 0 rfl (by decide)

/-- It takes every channel. -/
theorem narrow2 (j : ℕ) : Host.clampedStart S4096x8x16 S1x8x16 rfl (starts j) 2 = 0 :=
  Host.clampedStart_of_le _ _ _ 0 rfl (by decide)

section

variable (s : State Ideal) (j : ℕ) (hj : j < 4096) (b : Fin 8) (d : Fin 1024) (n : Fin 16)
include hj

/-- A trip's step sizes. -/
theorem b3_apply : b3 j s (ix2 b d) = s.main_v57_0 (ix3 ⟨j, hj⟩ b d) := by
  pointwise [b3, b2, b1, b0]
  simp only [wide0 j hj, wide1, wide2, Nat.zero_add]

/-- A trip's inputs. -/
theorem b7_apply : b7 j s (ix2 b d) = s.main_v57_1 (ix3 ⟨j, hj⟩ b d) := by
  pointwise [b7, b6, b5, b4]
  simp only [wide0 j hj, wide1, wide2, Nat.zero_add]

/-- A trip's gates. -/
theorem b19_apply : b19 j s (ix2 b d) = s.main_v57_4 (ix3 ⟨j, hj⟩ b d) := by
  pointwise [b19, b18, b17, b16]
  simp only [wide0 j hj, wide1, wide2, Nat.zero_add]

/-- A trip's weights into the state. -/
theorem b11_apply : b11 j s (ix2 b n) = s.main_v57_2 (ix3 ⟨j, hj⟩ b n) := by
  pointwise [b11, b10, b9, b8]
  simp only [narrow0 j hj, narrow1, narrow2, Nat.zero_add]

/-- A trip's weights out of the state. -/
theorem b15_apply : b15 j s (ix2 b n) = s.main_v57_3 (ix3 ⟨j, hj⟩ b n) := by
  pointwise [b15, b14, b13, b12]
  simp only [narrow0 j hj, narrow1, narrow2, Nat.zero_add]

/-- A trip's new state. -/
theorem b33_apply : b33 j s (ix3 b d n) =
    Ideal.exp (s.main_v57_0 (ix3 ⟨j, hj⟩ b d) * s.main_v57_5 (ix2 d n)) * s.main_v57_8 (ix3 b d n)
      + s.main_v57_0 (ix3 ⟨j, hj⟩ b d) * s.main_v57_1 (ix3 ⟨j, hj⟩ b d) * s.main_v57_2 (ix3 ⟨j, hj⟩ b n) := by
  pointwise [b33, b32, b31, b30, b29, b28, b27, b26, b25, b24, b23, b22, b21, b20, b3_apply s j hj, b7_apply s j hj, b11_apply s j hj]

/-- A trip's row. -/
theorem b39_apply : b39 j s (ix2 b d) =
    (∑ n : Fin 16, b33 j s (ix3 b d n) * s.main_v57_3 (ix3 ⟨j, hj⟩ b n) + s.main_v57_6 (ix1 d) * s.main_v57_1 (ix3 ⟨j, hj⟩ b d))
      * s.main_v57_4 (ix3 ⟨j, hj⟩ b d) := by
  pointwise [b39, b38, b37, b36, b35, b34, b15_apply s j hj, b7_apply s j hj, b19_apply s j hj]

/-- A trip writes its row and keeps the others. -/
theorem b43_apply (l : Fin 4096) : b43 j s (ix3 l b d) = if l.val = j then b39 j s (ix2 b d) else s.main_v57_9 (ix3 l b d) := by
  pointwise [b43, b40, b41, b42]
  simp only [wide0 j hj, wide1, wide2, Nat.sub_zero, Nat.zero_le, and_true]
  by_cases h : l.val = j
  · rw [dif_pos (by omega), if_pos h]
  · rw [dif_neg (by omega), if_neg h]

end

variable (m : (ℓ : Loc nD τ sig) → Buf (Elt Ideal) ℓ) (c : Dev nD)

/-- The arguments as the reference's memory holds them. -/
def args : Spec.Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)

/-- What the loop's state is before trip `k`: the scanned arrays, the recurrence's state, and the rows so far. -/
structure Good (p : Spec.Args) (s : State Ideal) (k : ℕ) : Prop where
  dl : ∀ b d l, s.main_v57_0 (ix3 l b d) = Spec.dl p b d l
  v : ∀ b d l, s.main_v57_1 (ix3 l b d) = Spec.v p b d l
  bm : ∀ b n l, s.main_v57_2 (ix3 l b n) = Spec.xd p b ⟨32 + n.val, by omega⟩ l
  cm : ∀ b n l, s.main_v57_3 (ix3 l b n) = Spec.xd p b ⟨48 + n.val, by omega⟩ l
  g : ∀ b d l, s.main_v57_4 (ix3 l b d) = Spec.silu (Spec.z p b d l)
  rate : ∀ d n, s.main_v57_5 (ix2 d n) = Spec.rate p d n
  skip : ∀ d, s.main_v57_6 (ix1 d) = p.a9 (ix1 d)
  st : ∀ b d n, s.main_v57_8 (ix3 b d n) = Spec.st p b d n k
  y : ∀ b d l, l.val < k → s.main_v57_9 (ix3 l b d) = Spec.y p b d l

/-- The loop starts well. -/
theorem good_start : Good (args m c) (Loop.start m c) 0 where
  dl b d l := v49 (args m c) b d l
  v b d l := v50 (args m c) b d l
  bm b n l := v51 (args m c) b n l
  cm b n l := v52 (args m c) b n l
  g b d l := v54 (args m c) b d l
  rate d n := v44 (args m c) d n
  skip d := rfl
  st b d n := by
    show K_main_v55 (F := Ideal) (ix3 b d n) = 0
    pointwise [K_main_v55, K_main_cst_0]
  y b d l h := absurd h (Nat.not_lt_zero _)

/-- A trip keeps it so. -/
theorem good_step (p : Spec.Args) (s : State Ideal) (k : ℕ) (hk : k < 4096) (h : Good p s k) : Good p (step k s) (k + 1) := by
  have e : ∀ b d n, b33 k s (ix3 b d n) = Spec.st p b d n (k + 1) := fun b d n => by
    rw [b33_apply s k hk, h.dl, h.rate, h.st, h.v, h.bm]
    exact (Spec.st_succ p b d n ⟨k, hk⟩).symm
  exact { dl := h.dl, v := h.v, bm := h.bm, cm := h.cm, g := h.g, rate := h.rate, skip := h.skip, st := e
          y := fun b d l hl => by
            show b43 k s (ix3 l b d) = _
            rw [b43_apply s k hk]
            by_cases hlk : l.val = k
            · rw [if_pos hlk, b39_apply s k hk]
              subst hlk
              simp only [e, h.cm, h.skip, h.v, h.g]
              rfl
            · rw [if_neg hlk]
              exact h.y b d l (by omega) }

/-- It is so before every trip. -/
theorem good_at : ∀ k, k ≤ 4096 → Good (args m c) (Loop.at_ m c k) k
  | 0, _ => good_start m c
  | k + 1, hk => good_step _ _ k (by omega) (good_at k (by omega))

/-- The reference's result, element by element. -/
theorem result (b : Fin 8) (o : Fin 512) (l : Fin 4096) :
    (Value.out_main_v64 (Value.STEP^[4096] (StableHlo.entryContents Value.preI m c)) : FVec Ideal S8x512x4096 .f32) (ix3 b o l) = Spec.out (args m c) b o l := by
  rw [Loop.out_eq]
  have e : ∀ d, (Loop.at_ m c 4096).main_v57_9 (ix3 l b d) = Spec.y (args m c) b d l := fun d => (good_at m c 4096 le_rfl).y b d l l.isLt
  pointwise [R_main_v64, e]
  rfl

end Cert.ReferenceIdeal.Val

end
-- ==== Proof.Value.lean ====
module

public import proofs.«01_k».proof.Proof.Windows
public import proofs.«01_k».proof.Proof.RefVal
public import proofs.«01_k».proof.Proof.RefRun
public import proofs.«01_k».proof.Proof.Frames
import all proofs.«01_k».proof.Proof.Region
import all proofs.«01_k».proof.Proof.BlockVal
import all proofs.«01_k».proof.Proof.Windows

/-! # The kernel's result is the reference's

Point by point the carried buffers hold the recurrence's state and the last row of the projection; so every point writes
its block of the result, the blocks fill the array, and the last host line turns it. -/

@[expose] public section

set_option maxRecDepth 65536
set_option maxHeartbeats 1000000

noncomputable section

namespace Cert.KernelIdeal.Val

open Cert Cert.KernelIdeal Cert.KernelIdeal.Gen Cert.KernelIdeal.Body
open Idealize.ShloMosaic Idealize.ShloMosaic.TcCoe Idealize.ShloMosaic.Tactic Idealize.SL.Sem

variable (m : (ℓ : Loc nD τ sig) → Buf (Elt Ideal) ℓ) (c : Dev nD)

attribute [local irreducible] Spec.st Spec.u Spec.out bodyOut bodyH bodyU

/-- The column as the kernel reads it. -/
theorem colAt_eq (t : Fin cfg0.N) : colAt t = BitVec.ofNat 32 (gCol t).val := congrArg (BitVec.ofNat 32) (coord_one t)

/-- Before anything has run the recurrence's state is zero. -/
theorem fresh (p : Spec.Args) (b : Fin 8) (g : Fin 2) (n : Fin 16) (d : Fin 1024) :
    (k0_pay82 (F := Ideal) : FVec Ideal S2x16x1024 .f32) (ix3 g n d) = Spec.st p b d n 0 := by
  have e : Spec.st p b d n 0 = 0 := by unfold Spec.st; rfl
  rw [e]
  pointwise [k0_pay82]

/-- What point `t` finds in the carried buffers. -/
structure Enters (t : Fin cfg0.N) : Prop where
  u : ∀ (h : 0 < (gCol t).val) g d, ((aft m c t.val).2 : FVec Ideal S2x1024 .f32) (ix2 g d)
    = Spec.u (kargs m c) (img (gRow t) g) d ⟨512 * (gCol t).val - 1, by omega⟩
  h : ∀ g d n, (entH t (aft m c t.val).1 : FVec Ideal S2x16x1024 .f32) (ix3 g n d)
    = Spec.st (kargs m c) (img (gRow t) g) d n (512 * (gCol t).val)

/-- A point in the first column starts afresh. -/
theorem enters_first (t : Fin cfg0.N) (h0 : t.val % 8 = 0) : Enters m c t where
  u h g d := absurd h (by show ¬ 0 < t.val % 8; omega)
  h g d n := by
    have e : 512 * (gCol t).val = 0 := by show 512 * (t.val % 8) = 0; omega
    rw [e]
    unfold entH
    rw [if_pos ((firstJ_iff t).mpr h0)]
    exact fresh _ _ g n d

/-- A point in another column starts where the one before it stopped. -/
theorem enters_next (t s : Fin cfg0.N) (h0 : t.val % 8 ≠ 0) (hs : s.val + 1 = t.val) (ih : Enters m c s) : Enters m c t := by
  have er : gRow t = gRow s := Fin.ext (by show t.val / 8 = s.val / 8; omega)
  have ec : (gCol t).val = (gCol s).val + 1 := by show t.val % 8 = s.val % 8 + 1; omega
  have ea := aft_succ (F := Ideal) m c s
  rw [hs, colAt_eq] at ea
  constructor
  · intro h g d
    rw [ea, er]
    dsimp only
    rw [bodyU_val (fits m c s) g d]
    exact congrArg (Spec.u (kargs m c) (img (gRow s) g) d) (Fin.ext (by simp only [ec]))
  · intro g d n
    unfold entH
    rw [if_neg (fun h => h0 ((firstJ_iff t).mp h)), ea, er, ec]
    dsimp only
    exact bodyH_val (fits m c s) g d n ih.u ih.h

/-- What every point finds in the carried buffers. -/
theorem enters : ∀ (k : ℕ) (hk : k < cfg0.N), Enters m c ⟨k, hk⟩
  | 0, hk => enters_first m c _ rfl
  | k + 1, hk => by
    by_cases h0 : (k + 1) % 8 = 0
    · exact enters_first m c _ h0
    · exact enters_next m c ⟨k + 1, hk⟩ ⟨k, by omega⟩ h0 rfl (enters k (by omega))

/-- What a point writes. -/
theorem outAt_val (t : Fin cfg0.N) (g : Fin 2) (q o : Fin 512) :
    (outAt m c t : FVec Ideal S2x512x512 .f32) (ix3 g q o) = Spec.out (kargs m c) (img (gRow t) g) o (tim (gCol t) q) := by
  unfold outAt
  rw [colAt_eq]
  exact bodyOut_val (fits m c t) g q o (enters m c t.val t.isLt).u (enters m c t.val t.isLt).h

/-- The kernel's array once every point has run. -/
def whole : FVec Ideal S8x4096x512 .f32 := fun y => Spec.out (kargs m c) (y 0) (y 2) (y 1)

/-- Every point writes its block of that array. -/
theorem flushed_eq (t : Fin cfg0.N) :
    (dats (F := Ideal) m 0 c).flushed 17 t = ((cfg0.win 17).blk t).view.read (Elt Ideal) (whole m c) := by
  show (cfg0.win 17).cut (grid0.coords t) ((dats m 0 c).after 17 t) = _
  rw [after0_17]
  have hi := index_out t
  funext y
  rw [View.read_apply]
  have ey : ∀ z : S2x512x512.Idx, ∃ (g : Fin 2) (q o : Fin 512), z = ix3 g q o := fun z => ⟨z 0, z 1, z 2, by
    funext a
    match a with
    | ⟨0, _⟩ => rfl
    | ⟨1, _⟩ => rfl
    | ⟨2, _⟩ => rfl⟩
  obtain ⟨g, q, o, rfl⟩ := ey y
  refine (outAt_val m c t g q o).trans ?_
  show _ = Spec.out (kargs m c) _ _ _
  have e0 : ∀ (b b' : Fin 8) (o o' : Fin 512) (l l' : Fin 4096), b = b' → o = o' → l = l' →
      Spec.out (kargs m c) b o l = Spec.out (kargs m c) b' o' l' := by rintro b _ o _ l _ rfl rfl rfl; rfl
  refine e0 _ _ _ _ _ _ (Fin.ext ?_) (Fin.ext ?_) (Fin.ext ?_)
  · show 2 * (t.val / 8) + g.val = win0_17.index t 0 * 2 + 1 * g.val
    rw [hi.1]; omega
  · show o.val = win0_17.index t 2 * 512 + 1 * o.val
    rw [hi.2.2]; omega
  · show 512 * (t.val % 8) + q.val = win0_17.index t 1 * 512 + 1 * q.val
    rw [hi.2.1]; omega

/-- The blocks fill the array. -/
theorem filled : (dats (F := Ideal) m 0 c).arrAt 17 cfg0.N = whole m c :=
  (dats (F := Ideal) m 0 c).arrAt_eq_of_cover 17 (whole m c) (fun t _ => flushed_eq m c t) fun (i : S8x4096x512.Idx) => by
    have h0 : (i 0).val < 8 := (i 0).isLt
    have h1 : (i 1).val < 4096 := (i 1).isLt
    have h2 : (i 2).val < 512 := (i 2).isLt
    have ht : (i 0).val / 2 * 8 + (i 1).val / 512 < cfg0.N := by show _ < 32; omega
    refine ⟨⟨(i 0).val / 2 * 8 + (i 1).val / 512, ht⟩, flush0_17 _, ?_⟩
    have hi := index_out ⟨(i 0).val / 2 * 8 + (i 1).val / 512, ht⟩
    show i ∈ ((View.whole main_v28).slice (win0_17.rect ⟨(i 0).val / 2 * 8 + (i 1).val / 512, ht⟩)).set
    rw [View.set_slice_whole, Rect.mem_set_unit]
    intro a
    match a with
    | ⟨0, _⟩ =>
      show win0_17.index _ 0 * 2 ≤ (i 0).val ∧ (i 0).val < win0_17.index _ 0 * 2 + 2
      rw [hi.1]; dsimp only; omega
    | ⟨1, _⟩ =>
      show win0_17.index _ 1 * 512 ≤ (i 1).val ∧ (i 1).val < win0_17.index _ 1 * 512 + 512
      rw [hi.2.1]; dsimp only; omega
    | ⟨2, _⟩ =>
      show win0_17.index _ 2 * 512 ≤ (i 2).val ∧ (i 2).val < win0_17.index _ 2 * 512 + 512
      rw [hi.2.2]; dsimp only; omega

/-- What the last host line leaves. -/
theorem turned (b : Fin 8) (o : Fin 512) (l : Fin 4096) :
    (Pipeline.afterTail₀ cfgs (dats (F := Ideal) m) 0 (V0 m) [hostOps1] c main_v29 : FVec Ideal S8x512x4096 .f32) (ix3 b o l)
      = Spec.out (kargs m c) b o l := by
  have e : (Pipeline.afterTail₀ cfgs (dats (F := Ideal) m) 0 (V0 m) [hostOps1] c main_v29 : FVec Ideal S8x512x4096 .f32)
      = transpose S8x512x4096 [0, 2, 1] (whole m c) transposes_S8x4096x512_S8x512x4096_0_2_1 := by
    unfold Pipeline.afterTail₀
    simp only [hostOps1, List.flatten_cons, List.flatten_nil, List.append_nil]
    after_results
    have w := (dats (F := Ideal) m 0 c).withArrays_arrAt sharedIn0 (V0 m c) (A_eq m c) 17
    exact congrArg (fun x => transpose S8x512x4096 [0, 2, 1] x transposes_S8x4096x512_S8x512x4096_0_2_1) (w.trans (filled m c))
  rw [e]
  pointwise [whole]

/-- An array of the result's shape is fixed by its entries. -/
theorem array_eq (f g : FVec Ideal ⟨3, ![8, 512, 4096]⟩ .f32) (h : ∀ b o l, f (ix3 b o l) = g (ix3 b o l)) : f = g := by
  funext y
  have ey : ∃ (b : Fin 8) (o : Fin 512) (l : Fin 4096), y = ix3 b o l := ⟨y 0, y 1, y 2, by
    funext a
    match a with
    | ⟨0, _⟩ => rfl
    | ⟨1, _⟩ => rfl
    | ⟨2, _⟩ => rfl⟩
  obtain ⟨b, o, l, rfl⟩ := ey
  exact h b o l

/-- The kernel's run ends with the block's value in its result. -/
theorem run_val (ρ : Dev nD → PrngReg) :
    θ_run defs (onTc (τ := τ) (main (F := Ideal))) ⟨m, fun _ => 0, ρ⟩ (fun r => ∀ c : Dev nD,
      r.2.mem ((c.tc : Thread nD τ).loc main_v29) = (fun y => Spec.out (kargs m c) (y 0) (y 1) (y 2) : FVec Ideal S8x512x4096 .f32)) :=
  (θ_run defs _ _).mono (fun _ h c => ((h.1 c).2 main_v29 (Pipeline.mem_restRefs_of main_v29 (by decide) (by decide))).trans (by
    exact array_eq _ _ (turned m c))) (run_main (F := Ideal) m ρ)

end Cert.KernelIdeal.Val

end
-- ==== Proof.Algebraic.lean ====
module

public import proofs.«01_k».proof.Defs
public import proofs.«01_k».proof.Proof.Value
public import proofs.«01_k».proof.Proof.RefVal
public import proofs.«01_k».proof.Proof.RefRun
public import Idealize.ShloMosaic.Lib.Claim

/-! # At the extended reals the kernel computes what the reference does -/

@[expose] public section

set_option maxRecDepth 65536
set_option maxHeartbeats 1000000

noncomputable section

namespace Cert.Algebraic

open Cert Idealize.ShloMosaic Idealize.ShloMosaic.TcCoe Idealize.SL.Sem

/-- From the same arguments the kernel and the reference, both read at the extended reals, end with the same result. -/
theorem holds : Cert.algebraic_KernelIdeal_ReferenceIdeal (hKernelIdeal := Cert.KernelIdeal.Gen.facts)
    (hReferenceIdeal := Cert.ReferenceIdeal.Gen.facts) := fun m g m' g' _ h => by
  refine ⟨fun c => (fun y => Spec.out (Cert.KernelIdeal.Val.kargs m c) (y 0) (y 1) (y 2) : FVec Ideal ⟨3, ![8, 512, 4096]⟩ .f32), ?_, ?_⟩
  · exact (θ_run _ _ _).mono (fun _ r c => ⟨r.1 c, r.2.1 c⟩)
      (θ_run_and (Cert.KernelIdeal.Val.run_val m g) (Cert.KernelIdeal.Body.frame (F := Ideal) m g))
  · refine (θ_run _ _ _).mono (fun _ r c => ⟨(r c).1.trans ?_, (r c).2⟩) (Cert.ReferenceIdeal.Value.run (F := Ideal) m' g')
    have ea : Cert.ReferenceIdeal.Val.args m' c = Cert.KernelIdeal.Val.kargs m c := by
      obtain ⟨h0, h1, h2, h3, h4, h5, h6, h7, h8, h9, h10, h11⟩ := h c
      unfold Cert.ReferenceIdeal.Val.args Cert.KernelIdeal.Val.kargs
      rw [h0, h1, h2, h3, h4, h5, h6, h7, h8, h9, h10, h11]
    exact Cert.KernelIdeal.Val.array_eq _ _ fun b o l => (Cert.ReferenceIdeal.Val.result m' c b o l).trans (congrArg (fun p => Spec.out p b o l) ea)

end Cert.Algebraic

end
-- ==== Proof.lean ====
/- The claims, each from its own module: the frames and the identity of the two kernel texts in `Proof/Frames.lean`, the equality
   with the reference in `Proof/Algebraic.lean`. -/
module

public import proofs.«01_k».proof.Defs
public import proofs.«01_k».proof.Proof.Frames
public import proofs.«01_k».proof.Proof.Algebraic

@[expose] public section

noncomputable section

namespace Cert.Proof

/-- Every claim of the certificate. -/
theorem claim : Cert.Claim := ⟨Cert.Kernel.Gen.facts, Cert.KernelIdeal.Gen.facts, Cert.ReferenceIdeal.Gen.facts,
  Cert.Frames.kernel, Cert.Frames.kernelIdeal, Cert.Frames.referenceIdeal, trivial, Cert.Algebraic.holds⟩

end Cert.Proof

end
